-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  IdealRules.named_const.Statement Cert.InprojIdeal.κ "scale" .f32 0x3E38AA3B#32 (((8 * (Real.log 2))⁻¹ : ℝ) : EReal)

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v16_0)) (v1 : (c : Dev Cert.InprojIdeal.nD) → Buf (Elt Ideal) ((c.tc : Thread Cert.InprojIdeal.nD Cert.InprojIdeal.τ).loc Cert.InprojIdeal.main_v16_1)) (v2 : (c : Dev Cert.InprojIdeal.nD) → Buf (Elt Ideal) ((c.tc : Thread Cert.InprojIdeal.nD Cert.InprojIdeal.τ).loc Cert.InprojIdeal.main_v16_2)) (v3 : (c : Dev Cert.InprojIdeal.nD) → Buf (Elt Ideal) ((c.tc : Thread Cert.InprojIdeal.nD Cert.InprojIdeal.τ).loc Cert.InprojIdeal.main_v16_3)) (v4 : (c : Dev Cert.InprojIdeal.nD) → Buf (Elt Ideal) ((c.tc : Thread Cert.InprojIdeal.nD Cert.InprojIdeal.τ).loc Cert.InprojIdeal.main_v16_4)) (v5 : (c : Dev Cert.InprojIdeal.nD) → Buf (Elt Ideal) ((c.tc : Thread Cert.InprojIdeal.nD Cert.InprojIdeal.τ).loc Cert.InprojIdeal.main_v16_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v16_0) = v0 c
          ∧ r.2.mem ((c.tc : Thread Cert.InprojIdeal.nD Cert.InprojIdeal.τ).loc Cert.InprojIdeal.main_v16_1) = v1 c
          ∧ r.2.mem ((c.tc : Thread Cert.InprojIdeal.nD Cert.InprojIdeal.τ).loc Cert.InprojIdeal.main_v16_2) = v2 c
          ∧ r.2.mem ((c.tc : Thread Cert.InprojIdeal.nD Cert.InprojIdeal.τ).loc Cert.InprojIdeal.main_v16_3) = v3 c
          ∧ r.2.mem ((c.tc : Thread Cert.InprojIdeal.nD Cert.InprojIdeal.τ).loc Cert.InprojIdeal.main_v16_4) = v4 c
          ∧ r.2.mem ((c.tc : Thread Cert.InprojIdeal.nD Cert.InprojIdeal.τ).loc Cert.InprojIdeal.main_v16_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v37) = v0 c
          ∧ r.2.mem ((c.tc : Thread Cert.InprojReferenceIdeal.nD Cert.InprojReferenceIdeal.τ).loc Cert.InprojReferenceIdeal.main_v39) = v1 c
          ∧ r.2.mem ((c.tc : Thread Cert.InprojReferenceIdeal.nD Cert.InprojReferenceIdeal.τ).loc Cert.InprojReferenceIdeal.main_v40) = v2 c
          ∧ r.2.mem ((c.tc : Thread Cert.InprojReferenceIdeal.nD Cert.InprojReferenceIdeal.τ).loc Cert.InprojReferenceIdeal.main_v48) = v3 c
          ∧ r.2.mem ((c.tc : Thread Cert.InprojReferenceIdeal.nD Cert.InprojReferenceIdeal.τ).loc Cert.InprojReferenceIdeal.main_v56) = v4 c
          ∧ r.2.mem ((c.tc : Thread Cert.InprojReferenceIdeal.nD Cert.InprojReferenceIdeal.τ).loc Cert.InprojReferenceIdeal.main_v57) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hFfn : Cert.Ffn.Facts) (hFfnIdeal : Cert.FfnIdeal.Facts) (hFfnReferenceIdeal : Cert.FfnReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Inproj_InprojIdeal
    ∧ algebraic_InprojIdeal_InprojReferenceIdeal (hInprojIdeal := hInprojIdeal) (hInprojReferenceIdeal := hInprojReferenceIdeal)
    ∧ preserves_Ffn_FfnIdeal
    ∧ algebraic_FfnIdeal_FfnReferenceIdeal (hFfnIdeal := hFfnIdeal) (hFfnReferenceIdeal := hFfnReferenceIdeal)
-- ==== Pre_finite.lean ====
abbrev S16 : Shape := ⟨1, ![16]⟩
abbrev S32x16 : Shape := ⟨2, ![32, 16]⟩
abbrev S16384x1024 : Shape := ⟨2, ![16384, 1024]⟩
abbrev S16384x512 : Shape := ⟨2, ![16384, 512]⟩
abbrev S_ : Shape := ⟨0, ![]⟩
abbrev S16384x256 : Shape := ⟨2, ![16384, 256]⟩

class Facts : Prop where
  bcast_S_S16 : S_.BroadcastsInDim S16 (![] : Fin 0 → Fin S16.rank)
  reducesTo_S16_S_d0 : S16.ReducesTo [0] S_
  h_S_ : 0 < S_.numel
  bcast_S_S32x16 : S_.BroadcastsInDim S32x16 (![] : Fin 0 → Fin S32x16.rank)
  reducesTo_S32x16_S_d0_1 : S32x16.ReducesTo [0, 1] S_
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  slices_S16384x512_S16384x256_0_0 : S16384x512.Slices ![0, 0] S16384x256
  bcast_S_S16384x256 : S_.BroadcastsInDim S16384x256 (![] : Fin 0 → Fin S16384x256.rank)
  reducesTo_S16384x256_S_d0_1 : S16384x256.ReducesTo [0, 1] S_

variable [Facts]

def fn_part1 {F : FTy → Type} [FloatOps F] (main_v13 : IVec S_ 1) (main_v16 : FVec F S16384x256 .f32) (main_cst_4 : FVec F S_ .f32) : IVec S_ 1 :=
  let main_v17 : FVec F S16384x256 .f32 := broadcastInDim S16384x256 ![] bcast_S_S16384x256 main_cst_4
  let main_v18 : IVec S16384x256 1 := cmpf .olt main_v16 main_v17
  let main_c_5 : IVec S_ 1 := constantI S_ 1 1#1
  let main_v19 : IVec S_ 1 := (fun x v => Host.reduce IntOp.andi x v reducesTo_S16384x256_S_d0_1 h_S_) main_v18 main_c_5
  let main_v20 : IVec S_ 1 := andi main_v13 main_v19
  main_v20

def fn {F : FTy → Type} [FloatOps F] (main_arg0 : FVec F S16 .f32) (main_arg1 : FVec F S32x16 .f32) (main_arg2 : FVec F S16384x1024 .bf16) (main_arg3 : FVec F S16384x512 .bf16) : IVec S_ 1 :=
  let main_cst : FVec F S_ .f32 := constant S_ .f32 0x7F800000#32
  let main_v0 : FVec F S16 .f32 := broadcastInDim S16 ![] bcast_S_S16 main_cst
  let main_v1 : IVec S16 1 := cmpf .olt main_arg0 main_v0
  let main_c : IVec S_ 1 := constantI S_ 1 1#1
  let main_v2 : IVec S_ 1 := (fun x v => Host.reduce IntOp.andi x v reducesTo_S16_S_d0 h_S_) main_v1 main_c
  let main_v3 : FVec F S32x16 .f32 := Host.absf main_arg1
  let main_cst_0 : FVec F S_ .f32 := constant S_ .f32 0x7F800000#32
  let main_v4 : FVec F S32x16 .f32 := broadcastInDim S32x16 ![] bcast_S_S32x16 main_cst_0
  let main_v5 : IVec S32x16 1 := cmpf .olt main_v3 main_v4
  let main_c_1 : IVec S_ 1 := constantI S_ 1 1#1
  let main_v6 : IVec S_ 1 := (fun x v => Host.reduce IntOp.andi x v reducesTo_S32x16_S_d0_1 h_S_) main_v5 main_c_1
  let main_v7 : IVec S_ 1 := andi main_v2 main_v6
  let main_v8 : FVec F S16384x1024 .f32 := (extf .f32 · bitsLt_bf16_f32) main_arg2
  let main_v9 : FVec F S16384x1024 .f32 := Host.absf main_v8
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v7 main_v12
  let main_v14 : FVec F S16384x256 .bf16 := (extractStridedSlice S16384x256 ![0, 0] · slices_S16384x512_S16384x256_0_0) main_arg3
  let main_v15 : FVec F S16384x256 .f32 := (extf .f32 · bitsLt_bf16_f32) main_v14
  let main_v16 : FVec F S16384x256 .f32 := Host.absf main_v15
  let main_cst_4 : FVec F S_ .f32 := constant S_ .f32 0x7F800000#32
  fn_part1 (F := F) main_v13 main_v16 main_cst_4
-- ==== Kernel.lean ====
abbrev S16 : Shape := ⟨1, ![16]⟩
abbrev S32x16 : Shape := ⟨2, ![32, 16]⟩
abbrev S16384x1024 : Shape := ⟨2, ![16384, 1024]⟩
abbrev S16384x512 : Shape := ⟨2, ![16384, 512]⟩
abbrev S128 : Shape := ⟨1, ![128]⟩
abbrev S_ : Shape := ⟨0, ![]⟩
abbrev S128x1 : Shape := ⟨2, ![128, 1]⟩
abbrev S128x16 : Shape := ⟨2, ![128, 16]⟩
abbrev S16x128 : Shape := ⟨2, ![16, 128]⟩
abbrev S16x1 : Shape := ⟨2, ![16, 1]⟩
abbrev S16x127 : Shape := ⟨2, ![16, 127]⟩
abbrev S16x256 : Shape := ⟨2, ![16, 256]⟩
abbrev S512x1024 : Shape := ⟨2, ![512, 1024]⟩
abbrev S128x512 : Shape := ⟨2, ![128, 512]⟩
abbrev S512x512 : Shape := ⟨2, ![512, 512]⟩
abbrev S2x2x1024x256 : Shape := ⟨4, ![2, 2, 1024, 256]⟩
abbrev S128x256 : Shape := ⟨2, ![128, 256]⟩
abbrev S1x256 : Shape := ⟨2, ![1, 256]⟩
abbrev S1x1x128x256 : Shape := ⟨4, ![1, 1, 128, 256]⟩
abbrev S256x128 : Shape := ⟨2, ![256, 128]⟩
abbrev S128x128 : Shape := ⟨2, ![128, 128]⟩
abbrev S256x512 : Shape := ⟨2, ![256, 512]⟩
abbrev S512x128 : Shape := ⟨2, ![512, 128]⟩
abbrev S512x256 : Shape := ⟨2, ![512, 256]⟩
abbrev S1024x256 : Shape := ⟨2, ![1024, 256]⟩
abbrev S1x1x1024x256 : Shape := ⟨4, ![1, 1, 1024, 256]⟩
abbrev S1 : Shape := ⟨1, ![1]⟩
abbrev S256x256 : Shape := ⟨2, ![256, 256]⟩

abbrev nBuf : Space → Nat
  | .hbm => 32
  | .vmem => 10
  | .smem => 1
  | _ => 0

abbrev bufTy : (tb : Table) → Fin (tcTables nBuf tb) → BufTy
  | .hbm, ⟨0, _⟩ => ⟨S16, .f32⟩
  | .hbm, ⟨1, _⟩ => ⟨S32x16, .f32⟩
  | .hbm, ⟨2, _⟩ => ⟨S16384x1024, .bf16⟩
  | .hbm, ⟨3, _⟩ => ⟨S16384x512, .bf16⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S128x16, .f32⟩
  | .hbm, ⟨12, _⟩ => ⟨S16x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x1, .f32⟩
  | .hbm, ⟨21, _⟩ => ⟨S16x128, .f32⟩
  | .hbm, ⟨22, _⟩ => ⟨S_, .f32⟩
  | .hbm, ⟨23, _⟩ => ⟨S16x127, .f32⟩
  | .hbm, ⟨24, _⟩ => ⟨S16x256, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S16x256, .f32⟩
  | .local _ .vmem, ⟨7, _⟩ => ⟨S512x1024, .bf16⟩
  | .local _ .vmem, ⟨8, _⟩ => ⟨S512x1024, .bf16⟩
  | .local _ .vmem, ⟨9, _⟩ => ⟨S2x2x1024x256, .f32⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_off1 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c1_i32_10 : BitVec 32 := 1#32
  let c0_i32_11 : BitVec 32 := 0#32
  let v23 : BitVec 32 := Scalar.select v13 c1_i32_10 c0_i32_11
  let v38 : Index := Scalar.indexCast v23
  let c0_20 : Index := 0#32
  let c0_21 : Index := 0#32
  let c0_22 : Index := 0#32
  ![v38.toNat, 0, 0, 0]
def k0_off2 (i : grid0.Coords) : Fin 4 → Nat :=
  let arg0 : BitVec 32 := BitVec.ofNat 32 (i 0).val
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c1_i32_10 : BitVec 32 := 1#32
  let c0_i32_11 : BitVec 32 := 0#32
  let v23 : BitVec 32 := Scalar.select v13 c1_i32_10 c0_i32_11
  let v224 : Index := Scalar.indexCast v23
  let c1_50 : Index := 1#32
  let c0_51 : Index := 0#32
  let c0_52 : Index := 0#32
  ![v224.toNat, 1, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16 : Shape := ⟨1, ![16]⟩
abbrev S32x16 : Shape := ⟨2, ![32, 16]⟩
abbrev S16384x1024 : Shape := ⟨2, ![16384, 1024]⟩
abbrev S16384x512 : Shape := ⟨2, ![16384, 512]⟩
abbrev S256 : Shape := ⟨1, ![256]⟩
abbrev S128 : Shape := ⟨1, ![128]⟩
abbrev S128x1 : Shape := ⟨2, ![128, 1]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S4x32x128x2x4x2x64 : Shape := ⟨7, ![4, 32, 128, 2, 4, 2, 64]⟩
abbrev S4x32x128x2x2x4x64 : Shape := ⟨7, ![4, 32, 128, 2, 2, 4, 64]⟩
abbrev S4x32x128x4x4x64 : Shape := ⟨6, ![4, 32, 128, 4, 4, 64]⟩
abbrev S16384x256 : Shape := ⟨2, ![16384, 256]⟩
abbrev S4x4096x256 : Shape := ⟨3, ![4, 4096, 256]⟩
abbrev S4x4224x256 : Shape := ⟨3, ![4, 4224, 256]⟩
abbrev S4x33x128x4x64 : Shape := ⟨5, ![4, 33, 128, 4, 64]⟩
abbrev S4x32x128x4x64 : Shape := ⟨5, ![4, 32, 128, 4, 64]⟩
abbrev S4x32x256x4x64 : Shape := ⟨5, ![4, 32, 256, 4, 64]⟩
abbrev S4x32x4x256x128x4 : Shape := ⟨6, ![4, 32, 4, 256, 128, 4]⟩
abbrev S4x32x4x4x128x256 : Shape := ⟨6, ![4, 32, 4, 4, 128, 256]⟩
abbrev S1x1x4x4x128x256 : Shape := ⟨6, ![1, 1, 4, 4, 128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x4x1 : Shape := ⟨3, ![4, 4, 1]⟩
abbrev S4x32x4x4x128 : Shape := ⟨5, ![4, 32, 4, 4, 128]⟩
abbrev S1x1x4x4x1 : Shape := ⟨5, ![1, 1, 4, 4, 1]⟩
abbrev S4x32x4x4x128x1 : Shape := ⟨6, ![4, 32, 4, 4, 128, 1]⟩
abbrev S4x32x4x64x4x128 : Shape := ⟨6, ![4, 32, 4, 64, 4, 128]⟩

abbrev nBuf : Space → Nat
  | .hbm => 134
  | .vmem => 0
  | .smem => 0
  | _ => 0

abbrev hbmTy0_0 (i : Nat) : BufTy := match i % 128 with
  | 0 => ⟨S16, .f32⟩
  | 1 => ⟨S32x16, .f32⟩
  | 2 => ⟨S16384x1024, .bf16⟩
  | 3 => ⟨S16384x512, .bf16⟩
  | 4 => ⟨S256, .i32⟩
  | 5 => ⟨S128, .i32⟩
  | 6 => ⟨S128x1, .i32⟩
  | 7 => ⟨S256, .i32⟩
  | 8 => ⟨S1x256, .i32⟩
  | 9 => ⟨S_, .i32⟩
  | 10 => ⟨S128x1, .i32⟩
  | 11 => ⟨S128x1, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i32⟩
  | 18 => ⟨S_, .i32⟩
  | 19 => ⟨S128x256, .i32⟩
  | 20 => ⟨S128x256, .i1⟩
  | 21 => ⟨S_, .i32⟩
  | 22 => ⟨S128x256, .i32⟩
  | 23 => ⟨S128x256, .i32⟩
  | 24 => ⟨S128x256, .i32⟩
  | 25 => ⟨S128x256x1, .i32⟩
  | 26 => ⟨S128x256, .i32⟩
  | 27 => ⟨S_, .i32⟩
  | 28 => ⟨S128x256, .i32⟩
  | 29 => ⟨S128x256, .i1⟩
  | 30 => ⟨S_, .i32⟩
  | 31 => ⟨S128x256, .i32⟩
  | 32 => ⟨S128x256, .i32⟩
  | 33 => ⟨S128x256, .i32⟩
  | 34 => ⟨S128x256x1, .i32⟩
  | 35 => ⟨S128x256x16, .f32⟩
  | 36 => ⟨S16x128x256, .f32⟩
  | 37 => ⟨S4x4x128x256, .f32⟩
  | 38 => ⟨S16384x1024, .f32⟩
  | 39 => ⟨S4x32x128x2x4x2x64, .f32⟩
  | 40 => ⟨S4x32x128x2x2x4x64, .f32⟩
  | 41 => ⟨S4x32x128x4x4x64, .f32⟩
  | 42 => ⟨S_, .f32⟩
  | 43 => ⟨S_, .f32⟩
  | 44 => ⟨S_, .f32⟩
  | 45 => ⟨S_, .f32⟩
  | 46 => ⟨S4x32x128x4x4x64, .f32⟩
  | 47 => ⟨S4x32x128x4x4x64, .f32⟩
  | 48 => ⟨S16384x256, .bf16⟩
  | 49 => ⟨S16384x256, .f32⟩
  | 50 => ⟨S4x4096x256, .f32⟩
  | 51 => ⟨S16384x256, .bf16⟩
  | 52 => ⟨S16384x256, .f32⟩
  | 53 => ⟨S4x4096x256, .f32⟩
  | 54 => ⟨S_, .i32⟩
  | 55 => ⟨S_, .f32⟩
  | 56 => ⟨S4x4224x256, .f32⟩
  | 57 => ⟨S4x33x128x4x64, .f32⟩
  | 58 => ⟨S_, .i32⟩
  | 59 => ⟨S_, .f32⟩
  | 60 => ⟨S4x4224x256, .f32⟩
  | 61 => ⟨S4x33x128x4x64, .f32⟩
  | 62 => ⟨S4x32x128x4x64, .f32⟩
  | 63 => ⟨S4x32x128x4x64, .f32⟩
  | 64 => ⟨S4x32x256x4x64, .f32⟩
  | 65 => ⟨S4x32x128x4x64, .f32⟩
  | 66 => ⟨S4x32x128x4x64, .f32⟩
  | 67 => ⟨S4x32x256x4x64, .f32⟩
  | 68 => ⟨S4x32x4x256x128x4, .f32⟩
  | 69 => ⟨S4x32x4x4x128x256, .f32⟩
  | 70 => ⟨S_, .f32⟩
  | 71 => ⟨S4x32x4x4x128x256, .f32⟩
  | 72 => ⟨S4x32x4x4x128x256, .f32⟩
  | 73 => ⟨S1x1x4x4x128x256, .f32⟩
  | 74 => ⟨S4x32x4x4x128x256, .f32⟩
  | 75 => ⟨S4x32x4x4x128x256, .f32⟩
  | 76 => ⟨S_, .i32⟩
  | 77 => ⟨S128x256, .i32⟩
  | 78 => ⟨S128x256, .i1⟩
  | 79 => ⟨S_, .i32⟩
  | 80 => ⟨S128x256, .i32⟩
  | 81 => ⟨S128x256, .i1⟩
  | 82 => ⟨S128x256, .i1⟩
  | 83 => ⟨S32, .i32⟩
  | 84 => ⟨S32x1x1, .i32⟩
  | 85 => ⟨S1x128x256, .i1⟩
  | 86 => ⟨S_, .i32⟩
  | 87 => ⟨S32x1x1, .i32⟩
  | 88 => ⟨S32x1x1, .i32⟩
  | 89 => ⟨S1x1x256, .i32⟩
  | 90 => ⟨S32x1x256, .i32⟩
  | 91 => ⟨S32x1x256, .i32⟩
  | 92 => ⟨S32x1x256, .i32⟩
  | 93 => ⟨S_, .i32⟩
  | 94 => ⟨S32x1x256, .i32⟩
  | 95 => ⟨S32x1x256, .i32⟩
  | 96 => ⟨S_, .i32⟩
  | 97 => ⟨S32x1x256, .i32⟩
  | 98 => ⟨S32x1x256, .i1⟩
  | 99 => ⟨S32x128x256, .i1⟩
  | 100 => ⟨S32x128x256, .i1⟩
  | 101 => ⟨S32x128x256, .i1⟩
  | 102 => ⟨S1x32x1x1x128x256, .i1⟩
  | 103 => ⟨S_, .f32⟩
  | 104 => ⟨S_, .f32⟩
  | 105 => ⟨S4x32x4x4x128x256, .i1⟩
  | 106 => ⟨S4x32x4x4x128x256, .f32⟩
  | 107 => ⟨S4x32x4x4x128x256, .f32⟩
  | 108 => ⟨S4x4x1, .f32⟩
  | 109 => ⟨S_, .f32⟩
  | 110 => ⟨S4x32x4x4x128, .f32⟩
  | 111 => ⟨S1x1x4x4x1, .f32⟩
  | 112 => ⟨S4x32x4x4x128, .f32⟩
  | 113 => ⟨S4x32x4x4x128, .f32⟩
  | 114 => ⟨S4x32x4x4x128x1, .f32⟩
  | 115 => ⟨S4x32x4x4x128x256, .f32⟩
  | 116 => ⟨S4x32x4x4x128x256, .f32⟩
  | 117 => ⟨S4x32x4x4x128x256, .f32⟩
  | 118 => ⟨S_, .f32⟩
  | 119 => ⟨S4x32x4x4x128, .f32⟩
  | 120 => ⟨S1x1x4x4x1, .f32⟩
  | 121 => ⟨S4x32x4x4x128, .f32⟩
  | 122 => ⟨S4x32x4x4x128, .f32⟩
  | 123 => ⟨S4x32x4x4x128, .f32⟩
  | 124 => ⟨S4x32x4x4x128, .f32⟩
  | 125 => ⟨S4x32x4x4x128x1, .f32⟩
  | 126 => ⟨S4x32x4x4x128x256, .f32⟩
  | 127 => ⟨S4x32x4x4x128x256, .f32⟩
  | _ => ⟨S16, .f32⟩

abbrev hbmTy0_1 (i : Nat) : BufTy := match i % 128 with
  | 0 => ⟨S4x32x4x64x4x128, .f32⟩
  | 1 => ⟨S4x32x128x4x4x64, .f32⟩
  | 2 => ⟨S4x32x128x2x2x4x64, .f32⟩
  | 3 => ⟨S4x32x128x2x4x2x64, .f32⟩
  | 4 => ⟨S16384x1024, .f32⟩
  | 5 => ⟨S16384x1024, .bf16⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_call1_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_10 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_13 : Ref sig .tc := ⟨.hbm, 93, rfl⟩
abbrev main_v72 : Ref sig .tc := ⟨.hbm, 94, rfl⟩
abbrev main_v73 : Ref sig .tc := ⟨.hbm, 95, rfl⟩
abbrev main_c_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_17 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]

def κ : String → Option EReal := fun
  | "mask" => some ⊥
  | _ => none
-- ==== Inproj.lean ====
abbrev S4x4096x2048 : Shape := ⟨3, ![4, 4096, 2048]⟩
abbrev S2048 : Shape := ⟨1, ![2048]⟩
abbrev S4x2048 : Shape := ⟨2, ![4, 2048]⟩
abbrev S2048x6144 : Shape := ⟨2, ![2048, 6144]⟩
abbrev S6144 : Shape := ⟨1, ![6144]⟩
abbrev S2048x2048 : Shape := ⟨2, ![2048, 2048]⟩
abbrev S2048x1024 : Shape := ⟨2, ![2048, 1024]⟩
abbrev S2048x2x2x4x64 : Shape := ⟨5, ![2048, 2, 2, 4, 64]⟩
abbrev S2048x2x4x2x64 : Shape := ⟨5, ![2048, 2, 4, 2, 64]⟩
abbrev S1024 : Shape := ⟨1, ![1024]⟩
abbrev S2x2x4x64 : Shape := ⟨4, ![2, 2, 4, 64]⟩
abbrev S2x4x2x64 : Shape := ⟨4, ![2, 4, 2, 64]⟩
abbrev S5120 : Shape := ⟨1, ![5120]⟩
abbrev S16384x2048 : Shape := ⟨2, ![16384, 2048]⟩
abbrev S1x2048 : Shape := ⟨2, ![1, 2048]⟩
abbrev S4x1x2048 : Shape := ⟨3, ![4, 1, 2048]⟩
abbrev S1x6144 : Shape := ⟨2, ![1, 6144]⟩
abbrev S16384x1024 : Shape := ⟨2, ![16384, 1024]⟩
abbrev S16384x512 : Shape := ⟨2, ![16384, 512]⟩
abbrev S512x2048 : Shape := ⟨2, ![512, 2048]⟩
abbrev S1x1x2048 : Shape := ⟨3, ![1, 1, 2048]⟩
abbrev S64x2048 : Shape := ⟨2, ![64, 2048]⟩
abbrev S512x1024 : Shape := ⟨2, ![512, 1024]⟩
abbrev S512x512 : Shape := ⟨2, ![512, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S1x512 : Shape := ⟨2, ![1, 512]⟩

abbrev nBuf : Space → Nat
  | .hbm => 29
  | .vmem => 25
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x6144, .f32⟩
  | .hbm, ⟨5, _⟩ => ⟨S6144, .f32⟩
  | .hbm, ⟨6, _⟩ => ⟨S2048x2048, .f32⟩
  | .hbm, ⟨7, _⟩ => ⟨S2048x6144, .bf16⟩
  | .hbm, ⟨8, _⟩ => ⟨S2048x1024, .bf16⟩
  | .hbm, ⟨9, _⟩ => ⟨S2048x2x2x4x64, .bf16⟩
  | .hbm, ⟨10, _⟩ => ⟨S2048x2x4x2x64, .bf16⟩
  | .hbm, ⟨11, _⟩ => ⟨S2048x1024, .bf16⟩
  | .hbm, ⟨12, _⟩ => ⟨S1024, .f32⟩
  | .hbm, ⟨13, _⟩ => ⟨S2x2x4x64, .f32⟩
  | .hbm, ⟨14, _⟩ => ⟨S2x4x2x64, .f32⟩
  | .hbm, ⟨15, _⟩ => ⟨S1024, .f32⟩
  | .hbm, ⟨16, _⟩ => ⟨S5120, .f32⟩
  | .hbm, ⟨17, _⟩ => ⟨S6144, .f32⟩
  | .hbm, ⟨18, _⟩ => ⟨S16384x2048, .f32⟩
  | .hbm, ⟨19, _⟩ => ⟨S1x2048, .f32⟩
  | .hbm, ⟨20, _⟩ => ⟨S4x1x2048, .f32⟩
  | .hbm, ⟨21, _⟩ => ⟨S4x1x2048, .f32⟩
  | .hbm, ⟨22, _⟩ => ⟨S1x6144, .f32⟩
  | .hbm, ⟨23, _⟩ => ⟨S16384x1024, .bf16⟩
  | .hbm, ⟨24, _⟩ => ⟨S16384x512, .bf16⟩
  | .hbm, ⟨25, _⟩ => ⟨S16384x512, .f32⟩
  | .hbm, ⟨26, _⟩ => ⟨S16384x2048, .bf16⟩
  | .hbm, ⟨27, _⟩ => ⟨S16384x2048, .bf16⟩
  | .hbm, ⟨28, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x6144, .bf16⟩
  | .local _ .vmem, ⟨9, _⟩ => ⟨S1x6144, .f32⟩
  | .local _ .vmem, ⟨10, _⟩ => ⟨S64x2048, .f32⟩
  | .local _ .vmem, ⟨11, _⟩ => ⟨S64x2048, .f32⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S64x2048, .bf16⟩
  | .local _ .vmem, ⟨23, _⟩ => ⟨S64x2048, .bf16⟩
  | .local _ .vmem, ⟨24, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InprojIdeal.lean ====
variable {F : FTy → Type} [FloatOps F] [Named F]
def κ : String → Option EReal := fun
  | "scale" => some (((8 * (Real.log 2))⁻¹ : ℝ) : EReal)
  | _ => none
-- ==== InprojReferenceIdeal.lean ====
abbrev S4x4096x2048 : Shape := ⟨3, ![4, 4096, 2048]⟩
abbrev S2048 : Shape := ⟨1, ![2048]⟩
abbrev S4x2048 : Shape := ⟨2, ![4, 2048]⟩
abbrev S2048x6144 : Shape := ⟨2, ![2048, 6144]⟩
abbrev S6144 : Shape := ⟨1, ![6144]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x6144 : Shape := ⟨3, ![4, 4096, 6144]⟩
abbrev S1x1x6144 : Shape := ⟨3, ![1, 1, 6144]⟩
abbrev S4x4096x1024 : Shape := ⟨3, ![4, 4096, 1024]⟩
abbrev S4x4096x512 : Shape := ⟨3, ![4, 4096, 512]⟩
abbrev S4x4096x2x2x4x64 : Shape := ⟨6, ![4, 4096, 2, 2, 4, 64]⟩
abbrev S4x4096x2x4x2x64 : Shape := ⟨6, ![4, 4096, 2, 4, 2, 64]⟩
abbrev S16384x1024 : Shape := ⟨2, ![16384, 1024]⟩
abbrev S16384x512 : Shape := ⟨2, ![16384, 512]⟩
abbrev S16384x2048 : Shape := ⟨2, ![16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x6144, .f32⟩
  | .hbm, ⟨5, _⟩ => ⟨S6144, .f32⟩
  | .hbm, ⟨6, _⟩ => ⟨S2048x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x4096x6144, .f32⟩
  | .hbm, ⟨33, _⟩ => ⟨S1x1x6144, .f32⟩
  | .hbm, ⟨34, _⟩ => ⟨S4x4096x6144, .f32⟩
  | .hbm, ⟨35, _⟩ => ⟨S4x4096x6144, .f32⟩
  | .hbm, ⟨36, _⟩ => ⟨S4x4096x1024, .f32⟩
  | .hbm, ⟨37, _⟩ => ⟨S4x4096x512, .f32⟩
  | .hbm, ⟨38, _⟩ => ⟨S4x4096x512, .f32⟩
  | .hbm, ⟨39, _⟩ => ⟨S4x4096x2048, .f32⟩
  | .hbm, ⟨40, _⟩ => ⟨S4x4096x2048, .f32⟩
  | .hbm, ⟨41, _⟩ => ⟨S4x4096x2x2x4x64, .f32⟩
  | .hbm, ⟨42, _⟩ => ⟨S4x4096x2x4x2x64, .f32⟩
  | .hbm, ⟨43, _⟩ => ⟨S16384x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .bf16⟩
  | .hbm, ⟨51, _⟩ => ⟨S16384x512, .f32⟩
  | .hbm, ⟨52, _⟩ => ⟨S16384x512, .bf16⟩
  | .hbm, ⟨53, _⟩ => ⟨S16384x512, .f32⟩
  | .hbm, ⟨54, _⟩ => ⟨S4x4096x2048, .f32⟩
  | .hbm, ⟨55, _⟩ => ⟨S4x4096x2048, .f32⟩
  | .hbm, ⟨56, _⟩ => ⟨S_, .f32⟩
  | .hbm, ⟨57, _⟩ => ⟨S4x4096x2048, .f32⟩
  | .hbm, ⟨58, _⟩ => ⟨S4x4096x2048, .f32⟩
  | .hbm, ⟨59, _⟩ => ⟨S_, .f32⟩
  | .hbm, ⟨60, _⟩ => ⟨S4x4096x2048, .f32⟩
  | .hbm, ⟨61, _⟩ => ⟨S4x4096x2048, .f32⟩
  | .hbm, ⟨62, _⟩ => ⟨S16384x2048, .f32⟩
  | .hbm, ⟨63, _⟩ => ⟨S16384x2048, .bf16⟩
  | .hbm, ⟨64, _⟩ => ⟨S4x4096x2048, .f32⟩
  | .hbm, ⟨65, _⟩ => ⟨S4x4096x2048, .f32⟩
  | .hbm, ⟨66, _⟩ => ⟨S_, .f32⟩
  | .hbm, ⟨67, _⟩ => ⟨S4x4096x2048, .f32⟩
  | .hbm, ⟨68, _⟩ => ⟨S4x4096x2048, .f32⟩
  | .hbm, ⟨69, _⟩ => ⟨S_, .f32⟩
  | .hbm, ⟨70, _⟩ => ⟨S4x4096x2048, .f32⟩
  | .hbm, ⟨71, _⟩ => ⟨S4x4096x2048, .f32⟩
  | .hbm, ⟨72, _⟩ => ⟨S16384x2048, .f32⟩
  | .hbm, ⟨73, _⟩ => ⟨S16384x2048, .bf16⟩
  | .hbm, ⟨74, _⟩ => ⟨S2048x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]

def κ : String → Option EReal := fun
  | "scale" => some (((8 * (Real.log 2))⁻¹ : ℝ) : EReal)
  | _ => none
-- ==== Ffn.lean ====
abbrev S16384x2048 : Shape := ⟨2, ![16384, 2048]⟩
abbrev S1x2048 : Shape := ⟨2, ![1, 2048]⟩
abbrev S4x1x2048 : Shape := ⟨3, ![4, 1, 2048]⟩
abbrev S2048x8192 : Shape := ⟨2, ![2048, 8192]⟩
abbrev S8192x2048 : Shape := ⟨2, ![8192, 2048]⟩
abbrev S128x2048 : Shape := ⟨2, ![128, 2048]⟩
abbrev S1x1x2048 : Shape := ⟨3, ![1, 1, 2048]⟩
abbrev S2048x2048 : Shape := ⟨2, ![2048, 2048]⟩
abbrev S512x2048 : Shape := ⟨2, ![512, 2048]⟩
abbrev S128 : Shape := ⟨1, ![128]⟩
abbrev S128x1 : Shape := ⟨2, ![128, 1]⟩

abbrev nBuf : Space → Nat
  | .hbm => 9
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S16384x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S2048x2048, .bf16⟩
  | .local _ .vmem, ⟨13, _⟩ => ⟨S2048x2048, .bf16⟩
  | .local _ .vmem, ⟨14, _⟩ => ⟨S2048x2048, .bf16⟩
  | .local _ .vmem, ⟨15, _⟩ => ⟨S2048x2048, .bf16⟩
  | .local _ .vmem, ⟨16, _⟩ => ⟨S128x2048, .f32⟩
  | .local _ .vmem, ⟨17, _⟩ => ⟨S128x2048, .f32⟩
  | .local _ .vmem, ⟨18, _⟩ => ⟨S512x2048, .bf16⟩
  | .local _ .vmem, ⟨19, _⟩ => ⟨S512x2048, .bf16⟩
  | .local _ .vmem, ⟨20, _⟩ => ⟨S512x2048, .f32⟩
  | .local _ .vmem, ⟨21, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![34, 4], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_cond2 (i : grid0.Coords) : BitVec 1 :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let c0_i32_7 : BitVec 32 := 0#32
  let v18 : BitVec 1 := Scalar.cmpi .eq arg0 c0_i32_7
  let v19 : BitVec 1 := Scalar.andi v17 v18
  let v20 : BitVec 32 := Scalar.extui v19
  let c0_i32_8 : BitVec 32 := 0#32
  let v21 : BitVec 1 := Scalar.cmpi .ne v20 c0_i32_8
  v21

def k0_off1 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v82 : Index := Scalar.indexCast v1
  let c0_38 : Index := 0#32
  ![v82.toNat, 0]
def k0_cond3 (i : grid0.Coords) : BitVec 1 :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let c1_i32_9 : BitVec 32 := 1#32
  let v22 : BitVec 1 := Scalar.cmpi .sge arg0 c1_i32_9
  let v23 : BitVec 1 := Scalar.andi v17 v22
  let c32_i32 : BitVec 32 := 32#32
  let v24 : BitVec 1 := Scalar.cmpi .sle arg0 c32_i32
  let v25 : BitVec 1 := Scalar.andi v23 v24
  let v26 : BitVec 32 := Scalar.extui v25
  let c0_i32_10 : BitVec 32 := 0#32
  let v27 : BitVec 1 := Scalar.cmpi .ne v26 c0_i32_10
  v27

def k0_off2 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v60 : Index := Scalar.indexCast v1
  let c0_30 : Index := 0#32
  ![v60.toNat, 0]
def k0_cond4 (i : grid0.Coords) : BitVec 1 :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi arg0 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let v17 : BitVec 1 := Scalar.cmpi .eq v16 c0_i32_6
  let c33_i32 : BitVec 32 := 33#32
  let v28 : BitVec 1 := Scalar.cmpi .eq arg0 c33_i32
  let v29 : BitVec 1 := Scalar.andi v17 v28
  let v30 : BitVec 32 := Scalar.extui v29
  let c0_i32_11 : BitVec 32 := 0#32
  let v31 : BitVec 1 := Scalar.cmpi .ne v30 c0_i32_11
  v31

def k0_off3 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v60 : Index := Scalar.indexCast v1
  let c0_30 : Index := 0#32
  ![v60.toNat, 0]
def k0_cond5 (i : grid0.Coords) : BitVec 1 :=
  let arg0 : BitVec 32 := BitVec.ofNat 32 (i 0).val
  let c2_i32_12 : BitVec 32 := 2#32
  let c0_i32_13 : BitVec 32 := 0#32
  let v32 : BitVec 1 := Scalar.cmpi .eq c2_i32_12 c0_i32_13
  let c1_i32_14 : BitVec 32 := 1#32
  let v33 : BitVec 32 := Scalar.select v32 c1_i32_14 c2_i32_12
  let v34 : BitVec 32 := Scalar.remsi arg0 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c1_i32_18 : BitVec 32 := 1#32
  let v42 : BitVec 1 := Scalar.cmpi .eq v41 c1_i32_18
  let c0_i32_19 : BitVec 32 := 0#32
  let v43 : BitVec 1 := Scalar.cmpi .eq arg0 c0_i32_19
  let v44 : BitVec 1 := Scalar.andi v42 v43
  let v45 : BitVec 32 := Scalar.extui v44
  let c0_i32_20 : BitVec 32 := 0#32
  let v46 : BitVec 1 := Scalar.cmpi .ne v45 c0_i32_20
  v46

def k0_off4 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v82 : Index := Scalar.indexCast v1
  let c0_38 : Index := 0#32
  ![v82.toNat, 0]
def k0_cond6 (i : grid0.Coords) : BitVec 1 :=
  let arg0 : BitVec 32 := BitVec.ofNat 32 (i 0).val
  let c2_i32_12 : BitVec 32 := 2#32
  let c0_i32_13 : BitVec 32 := 0#32
  let v32 : BitVec 1 := Scalar.cmpi .eq c2_i32_12 c0_i32_13
  let c1_i32_14 : BitVec 32 := 1#32
  let v33 : BitVec 32 := Scalar.select v32 c1_i32_14 c2_i32_12
  let v34 : BitVec 32 := Scalar.remsi arg0 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c1_i32_18 : BitVec 32 := 1#32
  let v42 : BitVec 1 := Scalar.cmpi .eq v41 c1_i32_18
  let c1_i32_21 : BitVec 32 := 1#32
  let v47 : BitVec 1 := Scalar.cmpi .sge arg0 c1_i32_21
  let v48 : BitVec 1 := Scalar.andi v42 v47
  let c32_i32_22 : BitVec 32 := 32#32
  let v49 : BitVec 1 := Scalar.cmpi .sle arg0 c32_i32_22
  let v50 : BitVec 1 := Scalar.andi v48 v49
  let v51 : BitVec 32 := Scalar.extui v50
  let c0_i32_23 : BitVec 32 := 0#32
  let v52 : BitVec 1 := Scalar.cmpi .ne v51 c0_i32_23
  v52

def k0_off5 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v60 : Index := Scalar.indexCast v1
  let c0_30 : Index := 0#32
  ![v60.toNat, 0]
def k0_cond7 (i : grid0.Coords) : BitVec 1 :=
  let arg0 : BitVec 32 := BitVec.ofNat 32 (i 0).val
  let c2_i32_12 : BitVec 32 := 2#32
  let c0_i32_13 : BitVec 32 := 0#32
  let v32 : BitVec 1 := Scalar.cmpi .eq c2_i32_12 c0_i32_13
  let c1_i32_14 : BitVec 32 := 1#32
  let v33 : BitVec 32 := Scalar.select v32 c1_i32_14 c2_i32_12
  let v34 : BitVec 32 := Scalar.remsi arg0 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c1_i32_18 : BitVec 32 := 1#32
  let v42 : BitVec 1 := Scalar.cmpi .eq v41 c1_i32_18
  let c33_i32_24 : BitVec 32 := 33#32
  let v53 : BitVec 1 := Scalar.cmpi .eq arg0 c33_i32_24
  let v54 : BitVec 1 := Scalar.andi v42 v53
  let v55 : BitVec 32 := Scalar.extui v54
  let c0_i32_25 : BitVec 32 := 0#32
  let v56 : BitVec 1 := Scalar.cmpi .ne v55 c0_i32_25
  v56

def k0_off6 (i : grid0.Coords) : Fin 2 → Nat :=
  let arg1 : BitVec 32 := BitVec.ofNat 32 (i 1).val
  let c128_i32 : BitVec 32 := 128#32
  let v0 : BitVec 32 := Scalar.muli arg1 c128_i32
  let v1 : BitVec 32 := v0
  let v60 : Index := Scalar.indexCast v1
  let c0_30 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.muli v2 c4_i32
  let v4 : BitVec 32 := Scalar.addi v3 arg1
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c33_i32 : BitVec 32 := 33#32
  let v1 : BitVec 1 := Scalar.cmpi .eq arg0 c33_i32
  let c3_i32 : BitVec 32 := 3#32
  let v2 : BitVec 32 := Scalar.select v1 c3_i32 arg1
  let c0_i32_0 : BitVec 32 := 0#32
  let v3 : BitVec 32 := Scalar.select v0 c0_i32_0 v2
  let c0_i32_1 : BitVec 32 := 0#32
  let c0_i32_2 : BitVec 32 := 0#32
  ![c0_i32_1.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c33_i32 : BitVec 32 := 33#32
  let v1 : BitVec 1 := Scalar.cmpi .eq arg0 c33_i32
  let c3_i32 : BitVec 32 := 3#32
  let v2 : BitVec 32 := Scalar.select v1 c3_i32 arg1
  let c0_i32_0 : BitVec 32 := 0#32
  let v3 : BitVec 32 := Scalar.select v0 c0_i32_0 v2
  let c0_i32_1 : BitVec 32 := 0#32
  let c0_i32_2 : BitVec 32 := 0#32
  ![v3.toNat, c0_i32_1.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c2_i32_0 : BitVec 32 := 2#32
  let v1 : BitVec 32 := Scalar.subi arg0 c2_i32_0
  let c0_i32 : BitVec 32 := 0#32
  let c31_i32 : BitVec 32 := 31#32
  let v2 : BitVec 32 := Scalar.maxsi c0_i32 v1
  let v3 : BitVec 32 := Scalar.minsi c31_i32 v2
  let c4_i32 : BitVec 32 := 4#32
  let v4 : BitVec 32 := Scalar.muli v3 c4_i32
  let v5 : BitVec 32 := Scalar.addi v4 arg1
  let c0_i32_1 : BitVec 32 := 0#32
  let v6 : BitVec 32 := Scalar.select v0 c0_i32_1 v5
  let c0_i32_2 : BitVec 32 := 0#32
  let c0_i32_3 : BitVec 32 := 0#32
  ![v6.toNat, c0_i32_2.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S16384x2048 : Shape := ⟨2, ![16384, 2048]⟩
abbrev S1x2048 : Shape := ⟨2, ![1, 2048]⟩
abbrev S4x1x2048 : Shape := ⟨3, ![4, 1, 2048]⟩
abbrev S2048x8192 : Shape := ⟨2, ![2048, 8192]⟩
abbrev S8192x2048 : Shape := ⟨2, ![8192, 2048]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x8192 : Shape := ⟨3, ![4, 4096, 8192]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S4x1x2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S_, .f32⟩
  | .hbm, ⟨26, _⟩ => ⟨S4x1x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S2048x8192, .f32⟩
  | .hbm, ⟨33, _⟩ => ⟨S4x4096x8192, .f32⟩
  | .hbm, ⟨34, _⟩ => ⟨S_, .f32⟩
  | .hbm, ⟨35, _⟩ => ⟨S4x4096x8192, .f32⟩
  | .hbm, ⟨36, _⟩ => ⟨S4x4096x8192, .f32⟩
  | .hbm, ⟨37, _⟩ => ⟨S4x4096x8192, .f32⟩
  | .hbm, ⟨38, _⟩ => ⟨S8192x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.Attn.FillIdeal.lean ====
/- The attention kernel's body, first half: the step taken at the first grid point only, which fills the kernel's
   scratch buffer with the table of per-head score corrections (sixteen rotated tables of 128 rows each, in two
   copies: one in which no position is hidden, one in which the first 128 positions are). -/
module

public import proofs.«01_k».proof.Proof.Gen.KernelIdeal.Skeleton
public import proofs.«01_k».proof.Proof.Gen.KernelIdeal.Frame
public import Idealize.ShloMosaic.Lib.ValueIdx
public import Idealize.ShloMosaic.Lib.WholeRead
public import Idealize.ShloMosaic.Lib.Pipeline.ValueKit.Geometry

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's one branch condition: the grid coordinate is zero. -/
abbrev cond0 (i : grid0.Coords) : Prop :=
  (Scalar.cmpi .ne (Scalar.extui (Scalar.cmpi .eq (BitVec.ofNat 32 (i 0).val) 0#32)) 0#32) = 1#1

/-- The branch: where the condition holds, thirty-two stores fill the scratch buffer from the correction rows. -/
def fill (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole) :
    Prog (TpuEff nD τ sig (Elt F) Λ₀ .tc) PUnit := do
  if cond0 i then do
    let ⟨v1509, v1539⟩ : Σ' (v1509 : IVec S128x256 32), FVec F S1x1x128x256 .f32 ← k0_part1 i arg1 harg1 arg2 harg2 arg3 harg3 arg4 harg4 arg5 harg5 arg6 harg6 arg7 harg7
    let v1569 : FVec F S1x1x128x256 .f32 ← k0_part2 i arg1 harg1 arg2 harg2 arg3 harg3 arg4 harg4 arg5 harg5 arg6 harg6 arg7 harg7 v1509 v1539
    let v1599 : FVec F S1x1x128x256 .f32 ← k0_part3 i arg1 harg1 arg2 harg2 arg3 harg3 arg4 harg4 arg5 harg5 arg6 harg6 arg7 harg7 v1509 v1569
    let v1629 : FVec F S1x1x128x256 .f32 ← k0_part4 i arg1 harg1 arg2 harg2 arg3 harg3 arg4 harg4 arg5 harg5 arg6 harg6 arg7 harg7 v1509 v1599
    let v1659 : FVec F S1x1x128x256 .f32 ← k0_part5 i arg1 harg1 arg2 harg2 arg3 harg3 arg4 harg4 arg5 harg5 arg6 harg6 arg7 harg7 v1509 v1629
    let v1689 : FVec F S1x1x128x256 .f32 ← k0_part6 i arg1 harg1 arg2 harg2 arg3 harg3 arg4 harg4 arg5 harg5 arg6 harg6 arg7 harg7 v1509 v1659
    let v1719 : FVec F S1x1x128x256 .f32 ← k0_part7 i arg1 harg1 arg2 harg2 arg3 harg3 arg4 harg4 arg5 harg5 arg6 harg6 arg7 harg7 v1509 v1689
    let v1749 : FVec F S1x1x128x256 .f32 ← k0_part8 i arg1 harg1 arg2 harg2 arg3 harg3 arg4 harg4 arg5 harg5 arg6 harg6 arg7 harg7 v1509 v1719
    Prog.lift (.store arg7 (Rect.unit (s := S2x2x1024x256) ![1, 1, 896, 0] S1x1x128x256.size inb_S2x2x1024x256_S1x1x128x256_1_1_896_0) v1749 Finset.univ (View.stores_vmem_bits_univ h_S1x1x128x256 rfl) (.inl rfl))
    pure ⟨⟩
  else do
    pure ⟨⟩

/-- The branch taken, from the correction rows `x4` and any scratch contents: it ends with the scratch buffer at the
    thirty-two stored pieces, which the proof finds. -/
noncomputable def fillRun (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x4 : S16x256.Idx → Elt F .f32) (hc : cond0 i) :
    { L : List (View.Piece (Elt F) S2x2x1024x256 .f32) //
      ∀ (E : Set ℕ) (K : PUnit → sProp 𝕄),
      iprop(owns c arg5 fullShare x4 ∗ (∃ d, owns c arg7 fullShare d)
        ∗ (iprop(owns c arg5 fullShare x4
          ∗ (∃ f, arg7.view.loc (c : Thread nD τ) ↦[arg7.view.set]{fullShare} arg7.view.writes (Elt F) f L)) -∗ K ⟨⟩))
      ⊢ wp frame (wpE (defs₀ (F := F)) Variants.none c none) E (fill i arg1 harg1 arg2 harg2 arg3 harg3 arg4 harg4 arg5 harg5 arg6 harg6 arg7 harg7) K } := by
  refine ⟨?_, fun E K => ?run⟩
  case run =>
  unfold fill
  rw [if_pos hc]
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  unfold owns
  iintro ⟨⟨%f4, %hf4, H4⟩, ⟨%d7, %f7, -, H7⟩, Hk⟩
  obtain rfl := harg5.eq_unread hf4
  sl_exec
  sl_step
  iapply Hk
  isplitl [H4]
  · iexists _; isplitr
    · ipureintro; exact harg5.read_unread _
    · iexact H4
  · iexists _; iexact H7

/-- Row `a` of the correction rows, as the kernel loads it: a one-row table. -/
def rowAt (x4 : S16x256.Idx → Elt F .f32) (a : Fin 16) : Vec F S1x256 .f32 := fun y => x4 (ix2 a (y 1))

/-- The scratch buffer filled: at copy `t`, half `o`, row `128·j + r` and column `k`, row `8·o + j` of the correction
    rows rotated right by `r`, read at `k` — in copy 1 the first 128 columns replaced by the hiding constant. -/
def tableOf (x4 : S16x256.Idx → Elt F .f32) : S2x2x1024x256.Idx → Elt F .f32 := fun y =>
  (if (y 0).val = 0 then k0_pay4 else k0_pay5)
    (rowAt x4 ⟨8 * (y 1).val + (y 2).val / 128, by have := (y 1).isLt; have := (y 2).isLt; simp at *; omega⟩)
    (ix4 0 0 ⟨(y 2).val % 128, Nat.mod_lt _ (by decide)⟩ (y 3))

/-- The kernel's load of one row of the correction rows is `rowAt`. -/
theorem rowRead (arg5 : Memref sig .tc .vmem S16x256 .f32) (harg5 : arg5.IsWhole) (x4 : S16x256.Idx → Elt F .f32)
    {a : Nat} (ha : a < 16) (inb) :
    View.readAt (Elt F) arg5.view (Rect.unit ![a, 0] ![1, 256] inb).toLoadRect (harg5.unread x4) = rowAt x4 ⟨a, ha⟩ := by
  funext y
  rw [harg5.readAt_unread]
  refine congrArg x4 (funext fun k => Fin.ext ?_)
  have h0 : (y 0).val < 1 := (y 0).isLt
  match k with
  | ⟨0, _⟩ => exact (ValueKit.rect_emb_unit_val _ _ inb y 0).trans (by simp)
  | ⟨1, _⟩ => exact (ValueKit.rect_emb_unit_val _ _ inb y 1).trans (by simp)

/-- The filled scratch buffer over one stored piece: the piece's own row of the correction rows, rotated. -/
theorem tableOf_emb (x4 : S16x256.Idx → Elt F .f32) {t o r a : Nat} (ha : a < 16) (h : a = 8 * o + r / 128) (hr : r % 128 = 0)
    (inb) (x : (Rect.unit (s := S2x2x1024x256) ![t, o, r, 0] ![1, 1, 128, 256] inb).shape.Idx) :
    tableOf x4 ((Rect.unit (s := S2x2x1024x256) ![t, o, r, 0] ![1, 1, 128, 256] inb).emb x)
      = (if t = 0 then k0_pay4 else k0_pay5) (rowAt x4 ⟨a, ha⟩) x := by
  let z := (Rect.unit (s := S2x2x1024x256) ![t, o, r, 0] ![1, 1, 128, 256] inb).emb x
  have e0 : (z 0).val = t + (x 0).val := ValueKit.rect_emb_unit_val _ _ inb x 0
  have e1 : (z 1).val = o + (x 1).val := ValueKit.rect_emb_unit_val _ _ inb x 1
  have e2 : (z 2).val = r + (x 2).val := ValueKit.rect_emb_unit_val _ _ inb x 2
  have e3 : (z 3).val = 0 + (x 3).val := ValueKit.rect_emb_unit_val _ _ inb x 3
  have h0 : (x 0).val < 1 := (x 0).isLt
  have h1 : (x 1).val < 1 := (x 1).isLt
  have h2 : (x 2).val < 128 := (x 2).isLt
  unfold tableOf
  rw [show (((Rect.unit (s := S2x2x1024x256) ![t, o, r, 0] ![1, 1, 128, 256] inb).emb x) 0).val = t by
    show (z 0).val = t; omega]
  refine congr (congrArg _ (congrArg _ (Fin.ext ?_))) (funext fun k => Fin.ext ?_)
  · show 8 * (z 1).val + (z 2).val / 128 = a
    omega
  · match k with
    | ⟨0, _⟩ => show 0 = (x 0).val; omega
    | ⟨1, _⟩ => show 0 = (x 1).val; omega
    | ⟨2, _⟩ => show (z 2).val % 128 = (x 2).val; omega
    | ⟨3, _⟩ => show (z 3).val = (x 3).val; omega

/-- Every piece the branch stores is the filled table over that piece. -/
theorem fillRun_pieces (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x4 : S16x256.Idx → Elt F .f32) (hc : cond0 i) :
    ∀ p ∈ (fillRun c i arg1 harg1 arg2 harg2 arg3 harg3 arg4 harg4 arg5 harg5 arg6 harg6 arg7 harg7 x4 hc).1, ∀ x : p.1.shape.Idx, p.2 x = tableOf x4 (p.1.emb x) := by
  have open_ (t o r a : Nat) (ht : t = 0) (ha : a < 16) (h : a = 8 * o + r / 128) (hr : r % 128 = 0) (inb) (inb')
      (x : (Rect.unit (s := S2x2x1024x256) ![t, o, r, 0] ![1, 1, 128, 256] inb).shape.Idx) :
      k0_pay4 (View.readAt (Elt F) arg5.view (Rect.unit ![a, 0] ![1, 256] inb').toLoadRect (harg5.unread x4)) x
        = tableOf x4 ((Rect.unit (s := S2x2x1024x256) ![t, o, r, 0] ![1, 1, 128, 256] inb).emb x) := by
    rw [tableOf_emb x4 ha h hr inb x, if_pos ht]
    exact congrFun (congrArg k0_pay4 (rowRead arg5 harg5 x4 ha inb')) x
  have hidden (t o r a : Nat) (ht : t ≠ 0) (ha : a < 16) (h : a = 8 * o + r / 128) (hr : r % 128 = 0) (inb) (inb')
      (x : (Rect.unit (s := S2x2x1024x256) ![t, o, r, 0] ![1, 1, 128, 256] inb).shape.Idx) :
      k0_pay5 (View.readAt (Elt F) arg5.view (Rect.unit ![a, 0] ![1, 256] inb').toLoadRect (harg5.unread x4)) x
        = tableOf x4 ((Rect.unit (s := S2x2x1024x256) ![t, o, r, 0] ![1, 1, 128, 256] inb).emb x) := by
    rw [tableOf_emb x4 ha h hr inb x, if_neg ht]
    exact congrFun (congrArg k0_pay5 (rowRead arg5 harg5 x4 ha inb')) x
  unfold fillRun
  dsimp only
  repeat' refine List.forall_mem_cons.mpr ⟨?_, ?_⟩
  all_goals try dsimp only
  all_goals first
    | exact fun x => open_ 0 _ _ _ rfl (by decide) (by decide) (by decide) _ _ x
    | exact fun x => hidden 1 _ _ _ (by decide) (by decide) (by decide) (by decide) _ _ x
    | exact fun p hp => absurd hp List.not_mem_nil

/-- The pieces the branch stores cover the scratch buffer. -/
theorem fillRun_cover (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x4 : S16x256.Idx → Elt F .f32) (hc : cond0 i) (y : S2x2x1024x256.Idx) :
    ∃ p ∈ (fillRun c i arg1 harg1 arg2 harg2 arg3 harg3 arg4 harg4 arg5 harg5 arg6 harg6 arg7 harg7 x4 hc).1, y ∈ p.1.set :=
  View.cover_of_tiledL (fillRun c i arg1 harg1 arg2 harg2 arg3 harg3 arg4 harg4 arg5 harg5 arg6 harg6 arg7 harg7 x4 hc).1 S1x1x128x256.size (by sl_kernel_rfl) y

/-- The first half of the body at any point: entered at scratch contents that already are `b` unless the branch is
    taken, with `b` the filled table where it is, it leaves the scratch buffer at `b`. -/
theorem fill_triple (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x4 : S16x256.Idx → Elt F .f32) (b : S2x2x1024x256.Idx → Elt F .f32) (hb : cond0 i → b = tableOf x4)
    (E : Set ℕ) (K : PUnit → sProp 𝕄) :
    iprop(owns c arg5 fullShare x4 ∗ (∃ d, owns c arg7 fullShare d ∗ ⌜¬ cond0 i → d = b⌝)
        ∗ (iprop(owns c arg5 fullShare x4 ∗ owns c arg7 fullShare b) -∗ K ⟨⟩))
      ⊢ wp frame (wpE (defs₀ (F := F)) Variants.none c none) E (fill i arg1 harg1 arg2 harg2 arg3 harg3 arg4 harg4 arg5 harg5 arg6 harg6 arg7 harg7) K := by
  by_cases hc : cond0 i
  · iintro ⟨H4, ⟨%d, H7, -⟩, Hk⟩
    iapply (fillRun c i arg1 harg1 arg2 harg2 arg3 harg3 arg4 harg4 arg5 harg5 arg6 harg6 arg7 harg7 x4 hc).2 E K
    isplitl [H4]
    · iexact H4
    isplitl [H7]
    · iexists d; iexact H7
    iintro ⟨H4, ⟨%f, H7⟩⟩
    iapply Hk
    isplitl [H4]
    · iexact H4
    unfold owns
    iexists _
    isplitr
    swap
    · iexact H7
    ipureintro
    rw [hb hc]
    funext y
    exact View.read_writes_apply_of_pieces _ _ _ _ (fillRun_pieces c i arg1 harg1 arg2 harg2 arg3 harg3 arg4 harg4 arg5 harg5 arg6 harg6 arg7 harg7 x4 hc) y (fillRun_cover c i arg1 harg1 arg2 harg2 arg3 harg3 arg4 harg4 arg5 harg5 arg6 harg6 arg7 harg7 x4 hc y)
  · unfold fill
    rw [if_neg hc]
    iintro ⟨H4, ⟨%d, H7, %hd⟩, Hk⟩
    obtain rfl := hd hc
    sl_step
    iapply Hk
    isplitl [H4]
    · iexact H4
    · iexact H7

/-- The branch with the rest of the program behind it on both sides, as it is printed, is the branch and then the rest. -/
theorem fill_bind (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    {α : Type} (R : Prog (TpuEff nD τ sig (Elt F) Λ₀ .tc) α) :
    (show Prog (TpuEff nD τ sig (Elt F) Λ₀ .tc) α from
      if _h : cond0 i then do
        let ⟨v1509, v1539⟩ : Σ' (v1509 : IVec S128x256 32), FVec F S1x1x128x256 .f32 ← k0_part1 i arg1 harg1 arg2 harg2 arg3 harg3 arg4 harg4 arg5 harg5 arg6 harg6 arg7 harg7
        let v1569 : FVec F S1x1x128x256 .f32 ← k0_part2 i arg1 harg1 arg2 harg2 arg3 harg3 arg4 harg4 arg5 harg5 arg6 harg6 arg7 harg7 v1509 v1539
        let v1599 : FVec F S1x1x128x256 .f32 ← k0_part3 i arg1 harg1 arg2 harg2 arg3 harg3 arg4 harg4 arg5 harg5 arg6 harg6 arg7 harg7 v1509 v1569
        let v1629 : FVec F S1x1x128x256 .f32 ← k0_part4 i arg1 harg1 arg2 harg2 arg3 harg3 arg4 harg4 arg5 harg5 arg6 harg6 arg7 harg7 v1509 v1599
        let v1659 : FVec F S1x1x128x256 .f32 ← k0_part5 i arg1 harg1 arg2 harg2 arg3 harg3 arg4 harg4 arg5 harg5 arg6 harg6 arg7 harg7 v1509 v1629
        let v1689 : FVec F S1x1x128x256 .f32 ← k0_part6 i arg1 harg1 arg2 harg2 arg3 harg3 arg4 harg4 arg5 harg5 arg6 harg6 arg7 harg7 v1509 v1659
        let v1719 : FVec F S1x1x128x256 .f32 ← k0_part7 i arg1 harg1 arg2 harg2 arg3 harg3 arg4 harg4 arg5 harg5 arg6 harg6 arg7 harg7 v1509 v1689
        let v1749 : FVec F S1x1x128x256 .f32 ← k0_part8 i arg1 harg1 arg2 harg2 arg3 harg3 arg4 harg4 arg5 harg5 arg6 harg6 arg7 harg7 v1509 v1719
        Prog.lift (.store arg7 (Rect.unit (s := S2x2x1024x256) ![1, 1, 896, 0] S1x1x128x256.size inb_S2x2x1024x256_S1x1x128x256_1_1_896_0) v1749 Finset.univ (View.stores_vmem_bits_univ h_S1x1x128x256 rfl) (.inl rfl))
        R
      else R) = fill i arg1 harg1 arg2 harg2 arg3 harg3 arg4 harg4 arg5 harg5 arg6 harg6 arg7 harg7 >>= fun _ => R := by
  unfold fill
  split
  · simp only [bind_assoc, pure_bind]
  · simp only [pure_bind]

end Cert.KernelIdeal.Attn

end
-- ==== Proof.Attn.BodyIdeal.lean ====
/- The attention kernel's whole body at any grid point, its first half (Attn/FillIdeal.lean) replaced by what it leaves:
   what the body stores into the result's block, as pieces the run finds. -/
module

public import proofs.«01_k».proof.Proof.Attn.FillIdeal

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first part of the body after its branch, as printed: the first block's keys, values and queries are loaded. -/
def rest9 (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole) :
    Prog (TpuEff nD τ sig (Elt F) Λ₀ .tc) (Σ' (v16 : IVec S256x128 1) (v19 : IVec S128x128 1) (v22 : FVec F S256x512 .bf16) (v23 : BitVec 32) (v24 : FVec F S256x128 .bf16) (v25 : FVec F S256x128 .bf16) (v30 : FVec F S512x128 .bf16), FVec F S256x128 .bf16) := do
  let arg0 : BitVec 32 := BitVec.ofNat 32 (i 0).val
  let v3 : BitVec 1 := Scalar.cmpi .eq 8#32 0#32
  let v4 : BitVec 32 := Scalar.select v3 1#32 8#32
  let v5 : BitVec 32 := Scalar.remsi arg0 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 0#32
  let v20 : Vec F S128x512 .bf16 ← Prog.lift (.load arg3 (Rect.unit (s := S128x512) ![0, 0] S128x512.size inb_S128x512_S128x512_0_0).toLoadRect (View.loadsAt_vmem h_S128x512))
  let v21 : Vec F S128x512 .bf16 ← Prog.lift (.load arg4 (Rect.unit (s := S512x512) ![0, 0] S128x512.size inb_S512x512_S128x512_0_0).toLoadRect (View.loadsAt_vmem h_S128x512))
  let v23 : BitVec 32 := Scalar.select v13 1#32 0#32
  let v26 : Vec F S128x128 .bf16 ← Prog.lift (.load arg2 (Rect.unit (s := S512x1024) ![0, 0] S128x128.size inb_S512x1024_S128x128_0_0).toLoadRect (View.loadsAt_vmem h_S128x128))
  let v27 : Vec F S128x128 .bf16 ← Prog.lift (.load arg2 (Rect.unit (s := S512x1024) ![0, 128] S128x128.size inb_S512x1024_S128x128_0_128).toLoadRect (View.loadsAt_vmem h_S128x128))
  let v28 : Vec F S128x128 .bf16 ← Prog.lift (.load arg2 (Rect.unit (s := S512x1024) ![0, 256] S128x128.size inb_S512x1024_S128x128_0_256).toLoadRect (View.loadsAt_vmem h_S128x128))
  let v29 : Vec F S128x128 .bf16 ← Prog.lift (.load arg2 (Rect.unit (s := S512x1024) ![0, 384] S128x128.size inb_S512x1024_S128x128_0_384).toLoadRect (View.loadsAt_vmem h_S128x128))
  pure ⟨k0_pay51, k0_pay52, k0_pay53 v20 v21, v23, k0_pay54 v20 v21, k0_pay55 v20 v21, k0_pay56 v26 v27 v28 v29, k0_pay57 (F := F)⟩

/-- The printed part is the branch and then the rest. -/
theorem part9_eq (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole) :
    k0_part9 (F := F) i arg1 harg1 arg2 harg2 arg3 harg3 arg4 harg4 arg5 harg5 arg6 harg6 arg7 harg7 = fill i arg1 harg1 arg2 harg2 arg3 harg3 arg4 harg4 arg5 harg5 arg6 harg6 arg7 harg7 >>= fun _ => rest9 i arg1 harg1 arg2 harg2 arg3 harg3 arg4 harg4 arg5 harg5 arg6 harg6 arg7 harg7 := by
  rw [← fill_bind, k0_part9_eq_skeleton]
  rfl

/-- The body at a point, from the blocks `x0 … x4` of its five inputs and scratch contents that are `b` unless the branch
    fills it (with `b` the filled table there): the inputs come back unchanged, the scratch buffer at `b`, the result's
    block at the stored pieces. -/
noncomputable def bodyRun (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x0 : S16.Idx → Elt F .f32) (x1 : S512x1024.Idx → Elt F .bf16) (x2 : S128x512.Idx → Elt F .bf16)
    (x3 : S512x512.Idx → Elt F .bf16) (x4 : S16x256.Idx → Elt F .f32) (b : S2x2x1024x256.Idx → Elt F .f32) :
    { L : List (View.Piece (Elt F) S512x1024 .bf16) //
      ∀ (hb : cond0 i → b = tableOf x4) (E : Set ℕ) (K : PUnit → sProp 𝕄),
      iprop(owns c arg1 fullShare x0 ∗ owns c arg2 fullShare x1 ∗ owns c arg3 fullShare x2 ∗ owns c arg4 fullShare x3
        ∗ owns c arg5 fullShare x4 ∗ (∃ d, owns c arg6 fullShare d) ∗ (∃ d, owns c arg7 fullShare d ∗ ⌜¬ cond0 i → d = b⌝)
        ∗ (iprop(owns c arg1 fullShare x0 ∗ owns c arg2 fullShare x1 ∗ owns c arg3 fullShare x2 ∗ owns c arg4 fullShare x3
          ∗ owns c arg5 fullShare x4
          ∗ (∃ f, arg6.view.loc (c : Thread nD τ) ↦[arg6.view.set]{fullShare} arg6.view.writes (Elt F) f L)
          ∗ owns c arg7 fullShare b) -∗ K ⟨⟩))
      ⊢ wp frame (wpE (defs₀ (F := F)) Variants.none c none) E (cc0_attn i arg1 harg1 arg2 harg2 arg3 harg3 arg4 harg4 arg5 harg5 arg6 harg6 arg7 harg7) K } := by
  refine ⟨?_, fun hb E K => ?run⟩
  case run =>
  simp only [cc0_attn_eq_skeleton]
  unfold cc0_attn_skel
  simp only [k0_part40_eq_skeleton]
  unfold k0_part40_skel
  rw [part9_eq, wp_bind, wp_bind, wp_bind]
  iintro ⟨H0, H1, H2, H3, H4, H5, H7, Hk⟩
  iapply (fill_triple c i arg1 harg1 arg2 harg2 arg3 harg3 arg4 harg4 arg5 harg5 arg6 harg6 arg7 harg7 x4 b hb E _)
  isplitl [H4]
  · iexact H4
  isplitl [H7]
  · iexact H7
  iintro ⟨H4, H7⟩
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold rest9 k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel
  unfold owns
  icases H0 with ⟨%f0, %hf0, H0⟩
  icases H1 with ⟨%f1, %hf1, H1⟩
  icases H2 with ⟨%f2, %hf2, H2⟩
  icases H3 with ⟨%f3, %hf3, H3⟩
  icases H5 with ⟨%d5, %f5, -, H5⟩
  icases H7 with ⟨%f7, %hf7, H7⟩
  obtain rfl := harg1.eq_unread hf0
  obtain rfl := harg2.eq_unread hf1
  obtain rfl := harg3.eq_unread hf2
  obtain rfl := harg4.eq_unread hf3
  obtain rfl := harg7.eq_unread hf7
  sl_exec
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexact H4
  isplitl [H5]
  · iexists _; iexact H5
  · iexists _; isplitr
    · ipureintro; exact harg7.read_unread _
    · iexact H7

end Cert.KernelIdeal.Attn

end
-- ==== Proof.Attn.FrameIdeal.lean ====
/- The attention kernel's frame: from any memory, every weakly fair execution of the program ends, its argument arrays
   unchanged and its result array at what the body stores, block by block. The scratch buffer's contents are carried from
   point to point: anything before the first point, the filled table after it. -/
module

public import proofs.«01_k».proof.Proof.Attn.BodyIdeal
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Rounds

variable (m : (ℓ : Loc nD τ sig) → Buf (Elt F) ℓ) (ρ : Dev nD → PrngReg)

/-- The condition holds at the first point and at no other. -/
theorem cond0_iff : ∀ t : Fin cfg0.N, cond0 (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [cond0, e0]
    word_cmp
   : ∀ t : Fin grid0.N, cond0 (grid0.coords t) ↔ t.val = 0)

/-! Each window's staging memref at a point, whole. -/

abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1024 .bf16 := win0_5.stage (cfg0.slots t 5)
abbrev hs5 (t : Fin cfg0.N) : (ms5 t).IsWhole := hstage0_5 ((cfg0.slots t 5).cast nbuf0_5)
/-- The scratch buffer. -/
abbrev scM : Memref sig .tc .vmem S2x2x1024x256 .f32 := Memref.whole cc0_scratch0

/-- The pieces the body stores cover the result's block. -/
theorem body_cover (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x0 : S16.Idx → Elt F .f32) (x1 : S512x1024.Idx → Elt F .bf16) (x2 : S128x512.Idx → Elt F .bf16)
    (x3 : S512x512.Idx → Elt F .bf16) (x4 : S16x256.Idx → Elt F .f32) (b : S2x2x1024x256.Idx → Elt F .f32) (y : S512x1024.Idx) :
    ∃ p ∈ (bodyRun c i arg1 harg1 arg2 harg2 arg3 harg3 arg4 harg4 arg5 harg5 arg6 harg6 arg7 harg7 x0 x1 x2 x3 x4 b).1, y ∈ p.1.set :=
  View.cover_of_tiledL (bodyRun c i arg1 harg1 arg2 harg2 arg3 harg3 arg4 harg4 arg5 harg5 arg6 harg6 arg7 harg7 x0 x1 x2 x3 x4 b).1 S128x128.size (by sl_kernel_rfl) y

/-- The scratch buffer's contents from the end of the first point on: the table filled from the correction rows. -/
def table (c : Dev nD) : S2x2x1024x256.Idx → Elt F .f32 := tableOf (iblk m c 4 ⟨0, by decide⟩)

/-- The result's staging buffer, to read stored pieces back through. -/
abbrev VO : View sig .tc .vmem S512x1024 .bf16 := (Memref.whole cc0_stg5_0).view

/-- The pieces the body stores at point `t`. -/
def pieces (c : Dev nD) (t : Fin cfg0.N) : List (View.Piece (Elt F) S512x1024 .bf16) :=
  (bodyRun c (grid0.coords t) (ms0 t) (hs0 t) (ms1 t) (hs1 t) (ms2 t) (hs2 t) (ms3 t) (hs3 t) (ms4 t) (hs4 t) (ms5 t) (hs5 t) scM (Memref.isWhole_whole _) (iblk m c 0 t) (iblk m c 1 t) (iblk m c 2 t) (iblk m c 3 t) (iblk m c 4 t) (table m c)).1

/-- What the body leaves in the result's block at point `t`. -/
def outAt (c : Dev nD) (t : Fin cfg0.N) : S512x1024.Idx → Elt F .bf16 :=
  VO.read (Elt F) (VO.writes (Elt F) VO.junk (pieces m c t))

/-- The invariant before point `t`: the scratch buffer owned, at the filled table once a point has run; the generator
    register at anything. -/
def Phi (c : Dev nD) (t : Fin (cfg0.N + 1)) : sProp 𝕄 :=
  iprop((∃ d, owns (c : Thread nD τ) scM fullShare d ∗ ⌜t.val ≠ 0 → d = table m c⌝) ∗ (∃ r, prngReg c r))

/-- The proof data: the arrays as the region finds them; the body leaves each input's block in place and the result's
    block at what it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Phi m c t
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1200000 in
/-- The body at any point: `bodyRun` at the windows' blocks. -/
theorem sound_body (c : Dev nD) (t : Fin cfg0.N) :
    bodyPre m c t ⊢ wp frame (wpE (defs₀ (F := F)) Variants.none c none) Set.univ (bodyAt0 t) (fun _ => bodyPost m c t) := by
  have hb : cond0 (grid0.coords t) → table m c = tableOf (iblk m c 4 t) := fun h => by
    obtain rfl : t = ⟨0, by decide⟩ := Fin.ext ((cond0_iff t).mp h)
    rfl
  unfold bodyPre bodyPost bodyAt0
  simp only [before0, before1, before2, before3, before4]
  rw [show (dats m 0 c).owesAt () t.succ = (dats m 0 c).owesAt () t.castSucc from rfl,
    after0, after1, after2, after3, after4, after5]
  rw [show (dats m 0 c).Φ t.castSucc = Phi m c t.castSucc from rfl, show (dats m 0 c).Φ t.succ = Phi m c t.succ from rfl]
  unfold Phi
  iintro ⟨⟨⟨%d, HS, %hd⟩, Hg⟩, Ho, ⟨%d0, H0⟩, ⟨%d1, H1⟩, ⟨%d2, H2⟩, ⟨%d3, H3⟩, ⟨%d4, H4⟩, ⟨%d5, H5⟩⟩
  iapply ((bodyRun c (grid0.coords t) (ms0 t) (hs0 t) (ms1 t) (hs1 t) (ms2 t) (hs2 t) (ms3 t) (hs3 t) (ms4 t) (hs4 t) (ms5 t) (hs5 t) scM (Memref.isWhole_whole _) (iblk m c 0 t) (iblk m c 1 t) (iblk m c 2 t) (iblk m c 3 t) (iblk m c 4 t) (table m c)).2 hb Set.univ _)
  isplitl [H0]; · iexact H0
  isplitl [H1]; · iexact H1
  isplitl [H2]; · iexact H2
  isplitl [H3]; · iexact H3
  isplitl [H4]; · iexact H4
  isplitl [H5]; · iexists _; iexact H5
  isplitl [HS]
  · iexists d
    isplitl [HS]; · iexact HS
    ipureintro; exact fun hc => hd fun h0 => hc ((cond0_iff t).mpr h0)
  iintro ⟨H0, H1, H2, H3, H4, ⟨%e5, H5⟩, HS⟩
  isplitl [HS Hg]
  · isplitl [HS]
    · iexists _
      isplitl [HS]; · iexact HS
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (body_cover c (grid0.coords t) (ms0 t) (hs0 t) (ms1 t) (hs1 t) (ms2 t) (hs2 t) (ms3 t) (hs3 t) (ms4 t) (hs4 t) (ms5 t) (hs5 t) scM (Memref.isWhole_whole _) (iblk m c 0 t) (iblk m c 1 t) (iblk m c 2 t) (iblk m c 3 t) (iblk m c 4 t) (table m c))

theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the body beside its windows: the scratch buffer at anything and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem Phi_in (c : Dev nD) : Pipeline.ΦA spec0 c ⊢ Phi m c 0 := by
  rw [PhiA_eq]; unfold Phi
  iintro ⟨⟨%d, HS⟩, Hg⟩
  isplitl [HS]
  · iexists d
    isplitl [HS]; · iexact HS
    ipureintro; exact fun h => absurd rfl h
  iexact Hg

theorem Phi_out (c : Dev nD) : Phi m c (Fin.last cfg0.N) ⊢ Pipeline.ΦA spec0 c := by
  rw [PhiA_eq]; unfold Phi
  iintro ⟨⟨%d, HS, -⟩, Hg⟩
  isplitl [HS]
  · iexists d; iexact HS
  iexact Hg

set_option backward.isDefEq.respectTransparency.types false in
/-- The launch: every weakly fair execution ends with every array of the pipeline at what the proof data says and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Phi_in m c) (hout := fun c => Phi_out m c)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Attn.Tile.lean ====
/- What the attention kernel stores into one 128×128 tile of its result, as one function of the tile's position: the
   printed body writes the same computation out for each of the 32 tiles, and each written-out copy is this function. -/
module

public import proofs.«01_k».proof.Proof.Attn.BodyIdeal
public import Idealize.ShloMosaic.Lib.Pointwise

@[expose] public section

set_option maxRecDepth 16384

noncomputable section

namespace Cert.KernelIdeal.Attn

open Cert.KernelIdeal.Gen
open Idealize.ShloMosaic Idealize.ShloMosaic.TcCoe Idealize.ShloMosaic.Tactic

variable {F : FTy → Type} [FloatOps F] [Named F]

/-- The scores of eight heads: four stacked query tiles against the keys of the even and of the odd lanes, plus the
    correction. -/
def scoresT (kb : FVec F S256x128 .bf16) (q : Fin 4 → Vec F S128x128 .bf16) (bias : Vec F S1x1x1024x256 .f32) :
    FVec F S1024x256 .f32 :=
  k0_pay58 k0_pay51 kb (k0_pay56 (q 0) (q 1) (q 2) (q 3)) k0_pay57 bias

theorem slices_rows (j : Fin 8) : S1024x256.Slices ![128 * j.val, 0] S128x256 := by revert j; decide
theorem slices_lanes (o : Fin 2) : S256x512.Slices ![0, 128 * o.val] S256x128 := by revert o; decide
theorem slices_lanes' (o : Fin 2) : S256x512.Slices ![0, 256 + 128 * o.val] S256x128 := by revert o; decide

/-- One head's scores. -/
def headT (s : FVec F S1024x256 .f32) (j : Fin 8) : FVec F S128x256 .f32 :=
  extractStridedSlice S128x256 ![128 * j.val, 0] s (slices_rows j)

/-- One head's row maxima, its sink among them. -/
def maxT (s : FVec F S1024x256 .f32) (sk : Fin 8 → Elt F .f32) (j : Fin 8) : FVec F S128x1 .f32 :=
  maximumf (shapeCast S128x1 (multiReduction .maximumf [1] S128 (headT s j) 0xFF800000#32 reduces_S128x256_S128 (.inl rfl) rfl) shapeCasts_S128_S128x1)
    (broadcast S128x1 (sk j))

/-- One head's weights, before division. -/
def expT (s : FVec F S1024x256 .f32) (sk : Fin 8 → Elt F .f32) (j : Fin 8) : FVec F S128x256 .bf16 :=
  truncf .bf16 (exp2 (subf (headT s j) (broadcastTo S128x256 (maxT s sk j) broadcasts_S128x1_S128x256))) bitsLt_bf16_f32

/-- One head's sink weight, before division. -/
def sinkT (s : FVec F S1024x256 .f32) (sk : Fin 8 → Elt F .f32) (j : Fin 8) : FVec F S128x1 .f32 :=
  exp2 (subf (broadcast S128x1 (sk j)) (maxT s sk j))

/-- All heads' weights against the values and against a block of ones. -/
def sumT (vb : FVec F S256x128 .bf16) (s : FVec F S1024x256 .f32) (sk : Fin 8 → Elt F .f32) : FVec F S1024x256 .f32 :=
  matmul dot_S1024x256_S256x256_S1024x256_1_0_0_1_n_n none
    (concatenate S1024x256 0 [⟨S128x256, expT s sk 0⟩, ⟨S128x256, expT s sk 1⟩, ⟨S128x256, expT s sk 2⟩, ⟨S128x256, expT s sk 3⟩, ⟨S128x256, expT s sk 4⟩, ⟨S128x256, expT s sk 5⟩, ⟨S128x256, expT s sk 6⟩, ⟨S128x256, expT s sk 7⟩] concatenates_S128x256_S128x256_S128x256_S128x256_S128x256_S128x256_S128x256_S128x256_S1024x256_d0)
    (concatenate S256x256 1 [⟨S256x128, vb⟩, ⟨S256x128, broadcast S256x128 (Scalar.ofBits .bf16 0x3F80#16)⟩] concatenates_S256x128_S256x128_S256x256_d1)
    (constant S1024x256 .f32 0x00000000#32)

/-- One head's output over all lanes: the weighted values over the weights' sum and the sink's weight. -/
def quotT (vb : FVec F S256x128 .bf16) (s : FVec F S1024x256 .f32) (sk : Fin 8 → Elt F .f32) (j : Fin 8) : FVec F S128x128 .f32 :=
  divf (extractStridedSlice S128x128 ![0, 0] (extractStridedSlice S128x256 ![128 * j.val, 0] (sumT vb s sk) (slices_rows j)) slices_S128x256_o0_0_S128x128)
    (addf (extractStridedSlice S128x128 ![0, 128] (extractStridedSlice S128x256 ![128 * j.val, 0] (sumT vb s sk) (slices_rows j)) slices_S128x256_o0_128_S128x128)
      (broadcastTo S128x128 (sinkT s sk j) broadcasts_S128x1_S128x128))

/-- The tile of the query pair `n` in half `o`: head `n` in the even lanes' half, head `n + 4` in the other. -/
def tileT (o : Fin 2) (n : Fin 4) (kv : FVec F S256x512 .bf16) (q : Fin 4 → Vec F S128x128 .bf16) (bias : Vec F S1x1x1024x256 .f32)
    (sk : Fin 8 → Elt F .f32) : FVec F S128x128 .bf16 :=
  let s := scoresT (extractStridedSlice S256x128 ![0, 128 * o.val] kv (slices_lanes o)) q bias
  let vb := extractStridedSlice S256x128 ![0, 256 + 128 * o.val] kv (slices_lanes' o)
  truncf .bf16 (select k0_pay52 (quotT vb s sk ⟨n.val, by omega⟩) (quotT vb s sk ⟨n.val + 4, by omega⟩)) bitsLt_bf16_f32

/-- A query tile: 128 rows of row block `r`, 128 lanes of lane block `c`. -/
def qTile (x1 : S512x1024.Idx → Elt F .bf16) (r : Fin 4) (c : Fin 8) : Vec F S128x128 .bf16 := fun y =>
  x1 (ix2 ⟨128 * r.val + (y 0).val, by have : (y 0).val < 128 := (y 0).isLt; omega⟩ ⟨128 * c.val + (y 1).val, by have : (y 1).val < 128 := (y 1).isLt; omega⟩)

/-- The keys and values seen by row block `r`: 256 rows ending with the block's own, the first 128 of them taken from the
    previous block's tail where `r` is the first. -/
def kvTile (x2 : S128x512.Idx → Elt F .bf16) (x3 : S512x512.Idx → Elt F .bf16) (r : Fin 4) : FVec F S256x512 .bf16 := fun y =>
  if h : 128 * r.val + (y 0).val < 128 then x2 (ix2 ⟨(y 0).val, by omega⟩ (y 1))
  else x3 (ix2 ⟨128 * r.val + (y 0).val - 128, by have : (y 0).val < 256 := (y 0).isLt; omega⟩ (y 1))

/-- The correction of half `o` in copy `t` of the table. -/
def biasTile (b : S2x2x1024x256.Idx → Elt F .f32) (t o : Fin 2) : Vec F S1x1x1024x256 .f32 := fun y =>
  b (ix4 t o (y 2) (y 3))

/-- Which copy of the correction table row block `r` reads at a grid point: the second one at the first row block of a
    sequence, the first one elsewhere. -/
def copyOf (i : grid0.Coords) (r : Fin 4) : Fin 2 :=
  if r.val = 0 then ⟨k0_off1 i 0, by have := k0_off1_inb i 0; simp at this; omega⟩ else 0

theorem copyOf_first (i : grid0.Coords) :
    copyOf i 0 = ⟨k0_off1 i 0, by have := k0_off1_inb i 0; simp at this; omega⟩ := if_pos rfl

/-- What the body leaves in the result's block. -/
def blockOf (i : grid0.Coords) (x0 : S16.Idx → Elt F .f32) (x1 : S512x1024.Idx → Elt F .bf16) (x2 : S128x512.Idx → Elt F .bf16)
    (x3 : S512x512.Idx → Elt F .bf16) (b : S2x2x1024x256.Idx → Elt F .f32) : S512x1024.Idx → Elt F .bf16 := fun y =>
  let r : Fin 4 := ⟨(y 0).val / 128, by have : (y 0).val < 512 := (y 0).isLt; omega⟩
  let o : Fin 2 := ⟨(y 1).val / 512, by have : (y 1).val < 1024 := (y 1).isLt; omega⟩
  tileT o ⟨(y 1).val % 512 / 128, by omega⟩ (kvTile x2 x3 r) (fun k => qTile x1 r ⟨4 * o.val + k.val, by omega⟩)
    (biasTile b (copyOf i r) o) (fun j => x0 (ix1 ⟨8 * o.val + j.val, by omega⟩))
    (ix2 ⟨(y 0).val % 128, by omega⟩ ⟨(y 1).val % 128, by omega⟩)

theorem qRead (arg2 : Memref sig .tc .vmem S512x1024 .bf16) (harg2 : arg2.IsWhole) (x1 : S512x1024.Idx → Elt F .bf16)
    (r : Fin 4) (c : Fin 8) {a b : Nat} (ha : a = 128 * r.val) (hb : b = 128 * c.val) (inb) :
    View.readAt (Elt F) arg2.view (Rect.unit (s := S512x1024) ![a, b] S128x128.size inb).toLoadRect (harg2.unread x1) = qTile x1 r c := by
  subst ha hb
  funext y
  rw [harg2.readAt_unread]
  refine congrArg x1 (funext fun k => Fin.ext ?_)
  match k with
  | ⟨0, _⟩ => exact ValueKit.rect_emb_unit_val _ _ inb y 0
  | ⟨1, _⟩ => exact ValueKit.rect_emb_unit_val _ _ inb y 1

theorem kvRead (arg4 : Memref sig .tc .vmem S512x512 .bf16) (harg4 : arg4.IsWhole) (x2 : S128x512.Idx → Elt F .bf16)
    (x3 : S512x512.Idx → Elt F .bf16) (r : Fin 4) (hr : r.val ≠ 0) {a : Nat} (ha : a = 128 * r.val - 128) (inb) :
    View.readAt (Elt F) arg4.view (Rect.unit (s := S512x512) ![a, 0] S256x512.size inb).toLoadRect (harg4.unread x3) = kvTile x2 x3 r := by
  subst ha
  funext y
  rw [harg4.readAt_unread, kvTile, dif_neg (by omega)]
  refine congrArg x3 (funext fun k => Fin.ext ?_)
  match k with
  | ⟨0, _⟩ => exact (ValueKit.rect_emb_unit_val _ _ inb y 0).trans (show 128 * r.val - 128 + (y 0).val = 128 * r.val + (y 0).val - 128 by omega)
  | ⟨1, _⟩ => exact (ValueKit.rect_emb_unit_val _ _ inb y 1).trans (Nat.zero_add _)

theorem skRead (arg1 : Memref sig .tc .smem S16 .f32) (harg1 : arg1.IsWhole) (x0 : S16.Idx → Elt F .f32)
    {a : Nat} (k : Fin 16) (ha : a = k.val) (inb) (h) :
    View.readAt (Elt F) arg1.view (Rect.unit (s := S16) ![a] S1.size inb).toLoadRect (harg1.unread x0) (Shape.Idx.first h) = x0 (ix1 k) := by
  subst ha
  rw [harg1.readAt_unread]
  refine congrArg x0 (funext fun d => Fin.ext ?_)
  match d with
  | ⟨0, _⟩ => exact (ValueKit.rect_emb_unit_val _ _ inb _ 0).trans (Nat.add_zero _)

theorem biasRead (arg7 : Memref sig .tc .vmem S2x2x1024x256 .f32) (harg7 : arg7.IsWhole) (b : S2x2x1024x256.Idx → Elt F .f32)
    (t o : Fin 2) (off : Fin 4 → Nat) (h : off = ![t.val, o.val, 0, 0]) (inb) :
    View.readAt (Elt F) arg7.view (Rect.unit (s := S2x2x1024x256) off S1x1x1024x256.size inb).toLoadRect (harg7.unread b) = biasTile b t o := by
  subst h
  funext y
  rw [harg7.readAt_unread]
  have h0 : (y 0).val < 1 := (y 0).isLt
  have h1 : (y 1).val < 1 := (y 1).isLt
  refine congrArg b (funext fun d => Fin.ext ?_)
  match d with
  | ⟨0, _⟩ => exact (ValueKit.rect_emb_unit_val _ _ inb y 0).trans (show t.val + (y 0).val = t.val by omega)
  | ⟨1, _⟩ => exact (ValueKit.rect_emb_unit_val _ _ inb y 1).trans (show o.val + (y 1).val = o.val by omega)
  | ⟨2, _⟩ => exact (ValueKit.rect_emb_unit_val _ _ inb y 2).trans (Nat.zero_add _)
  | ⟨3, _⟩ => exact (ValueKit.rect_emb_unit_val _ _ inb y 3).trans (Nat.zero_add _)

/-- The first row block's keys and values: the previous block's tail above its own rows. -/
theorem kvRead0 (arg3 : Memref sig .tc .vmem S128x512 .bf16) (harg3 : arg3.IsWhole) (arg4 : Memref sig .tc .vmem S512x512 .bf16)
    (harg4 : arg4.IsWhole) (x2 : S128x512.Idx → Elt F .bf16) (x3 : S512x512.Idx → Elt F .bf16) (inb) (inb') :
    k0_pay53 (View.readAt (Elt F) arg3.view (Rect.unit (s := S128x512) ![0, 0] S128x512.size inb).toLoadRect (harg3.unread x2))
      (View.readAt (Elt F) arg4.view (Rect.unit (s := S512x512) ![0, 0] S128x512.size inb').toLoadRect (harg4.unread x3))
      = kvTile x2 x3 0 := by
  funext y
  have hy : (y 0).val < 256 := (y 0).isLt
  unfold k0_pay53
  refine (concatenate_pair_apply (s₁ := S128x512) (s₂ := S128x512) (t := S256x512) 0 _ _ _ y).trans ?_
  rw [kvTile]
  have h0 : 128 * (0 : Fin 4).val + (y 0).val = (y 0).val := Nat.zero_add _
  split
  · rename_i h
    rw [dif_pos (by rw [h0]; exact h), harg3.readAt_unread]
    refine congrArg x2 (funext fun d => Fin.ext ?_)
    match d with
    | ⟨0, _⟩ => exact (ValueKit.rect_emb_unit_val _ _ inb _ 0).trans (Nat.zero_add _)
    | ⟨1, _⟩ => exact (ValueKit.rect_emb_unit_val _ _ inb _ 1).trans (Nat.zero_add _)
  · rename_i h
    rw [dif_neg (by rw [h0]; exact h), harg4.readAt_unread]
    refine congrArg x3 (funext fun d => Fin.ext ?_)
    match d with
    | ⟨0, _⟩ => exact (ValueKit.rect_emb_unit_val _ _ inb' _ 0).trans (show 0 + ((y 0).val - 128) = 128 * 0 + (y 0).val - 128 by omega)
    | ⟨1, _⟩ => exact (ValueKit.rect_emb_unit_val _ _ inb' _ 1).trans (Nat.zero_add _)

/-- The block over one stored tile. -/
theorem blockOf_emb (i : grid0.Coords) (x0 : S16.Idx → Elt F .f32) (x1 : S512x1024.Idx → Elt F .bf16) (x2 : S128x512.Idx → Elt F .bf16)
    (x3 : S512x512.Idx → Elt F .bf16) (b : S2x2x1024x256.Idx → Elt F .f32) (r : Fin 4) (o : Fin 2) (n : Fin 4) {a c : Nat}
    (ha : a = 128 * r.val) (hc : c = 512 * o.val + 128 * n.val) (inb)
    (x : (Rect.unit (s := S512x1024) ![a, c] ![128, 128] inb).shape.Idx) :
    blockOf i x0 x1 x2 x3 b ((Rect.unit (s := S512x1024) ![a, c] ![128, 128] inb).emb x)
      = tileT o n (kvTile x2 x3 r) (fun k => qTile x1 r ⟨4 * o.val + k.val, by omega⟩)
          (biasTile b (copyOf i r) o) (fun j => x0 (ix1 ⟨8 * o.val + j.val, by omega⟩)) x := by
  subst ha hc
  have x0lt : (x 0).val < 128 := (x 0).isLt
  have x1lt : (x 1).val < 128 := (x 1).isLt
  have e0 : (((Rect.unit (s := S512x1024) ![128 * r.val, 512 * o.val + 128 * n.val] ![128, 128] inb).emb x) 0).val = 128 * r.val + (x 0).val :=
    ValueKit.rect_emb_unit_val _ _ inb x 0
  have e1 : (((Rect.unit (s := S512x1024) ![128 * r.val, 512 * o.val + 128 * n.val] ![128, 128] inb).emb x) 1).val = 512 * o.val + 128 * n.val + (x 1).val :=
    ValueKit.rect_emb_unit_val _ _ inb x 1
  have key (y : S512x1024.Idx) (h0 : (y 0).val = 128 * r.val + (x 0).val) (h1 : (y 1).val = 512 * o.val + 128 * n.val + (x 1).val) :
      blockOf i x0 x1 x2 x3 b y = tileT o n (kvTile x2 x3 r) (fun k => qTile x1 r ⟨4 * o.val + k.val, by omega⟩)
          (biasTile b (copyOf i r) o) (fun j => x0 (ix1 ⟨8 * o.val + j.val, by omega⟩)) (ix2 ⟨(x 0).val, x0lt⟩ ⟨(x 1).val, x1lt⟩) := by
    unfold blockOf
    have hr : (⟨(y 0).val / 128, by have : (y 0).val < 512 := (y 0).isLt; omega⟩ : Fin 4) = r := Fin.ext (by show (y 0).val / 128 = r.val; omega)
    have ho : (⟨(y 1).val / 512, by have : (y 1).val < 1024 := (y 1).isLt; omega⟩ : Fin 2) = o := Fin.ext (by show (y 1).val / 512 = o.val; omega)
    have hn : (⟨(y 1).val % 512 / 128, by omega⟩ : Fin 4) = n := Fin.ext (by show (y 1).val % 512 / 128 = n.val; omega)
    have ha : (⟨(y 0).val % 128, by omega⟩ : Fin 128) = ⟨(x 0).val, x0lt⟩ := Fin.ext (by show (y 0).val % 128 = (x 0).val; omega)
    have hb : (⟨(y 1).val % 128, by omega⟩ : Fin 128) = ⟨(x 1).val, x1lt⟩ := Fin.ext (by show (y 1).val % 128 = (x 1).val; omega)
    have ho' : (y 1).val / 512 = o.val := congrArg Fin.val ho
    simp only [hr, ho, hn, ha, hb, ho']
  rw [key _ e0 e1]
  refine congrArg _ (funext fun d => ?_)
  match d with
  | ⟨0, _⟩ => rfl
  | ⟨1, _⟩ => rfl

theorem S1_pos : 0 < S1.numel := by decide
theorem inbQ (r : Fin 4) (c : Fin 8) : ∀ a, (![128 * r.val, 128 * c.val] : Fin 2 → Nat) a + S128x128.size a ≤ S512x1024.size a := by
  revert r c; decide
theorem inbK (r : Fin 4) : ∀ a, (![128 * r.val - 128, 0] : Fin 2 → Nat) a + S256x512.size a ≤ S512x512.size a := by
  revert r; decide
theorem inbS (k : Fin 16) : ∀ a, (![k.val] : Fin 1 → Nat) a + S1.size a ≤ S16.size a := by
  revert k; decide
theorem inbB (o : Fin 2) : ∀ a, (![0, o.val, 0, 0] : Fin 4 → Nat) a + S1x1x1024x256.size a ≤ S2x2x1024x256.size a := by
  revert o; decide

set_option maxHeartbeats 4000000 in
/-- Every piece the body stores is the tile at its position. -/
theorem body_pieces (c : Dev nD) (i : grid0.Coords) (arg1 : Memref sig .tc .smem S16 .f32) (harg1 : arg1.IsWhole) (arg2 : Memref sig .tc .vmem S512x1024 .bf16) (harg2 : arg2.IsWhole) (arg3 : Memref sig .tc .vmem S128x512 .bf16) (harg3 : arg3.IsWhole) (arg4 : Memref sig .tc .vmem S512x512 .bf16) (harg4 : arg4.IsWhole)
    (arg5 : Memref sig .tc .vmem S16x256 .f32) (harg5 : arg5.IsWhole) (arg6 : Memref sig .tc .vmem S512x1024 .bf16) (harg6 : arg6.IsWhole) (arg7 : Memref sig .tc .vmem S2x2x1024x256 .f32) (harg7 : arg7.IsWhole)
    (x0 : S16.Idx → Elt F .f32) (x1 : S512x1024.Idx → Elt F .bf16) (x2 : S128x512.Idx → Elt F .bf16) (x3 : S512x512.Idx → Elt F .bf16) (x4 : S16x256.Idx → Elt F .f32) (b : S2x2x1024x256.Idx → Elt F .f32) :
    ∀ p ∈ (bodyRun c i arg1 harg1 arg2 harg2 arg3 harg3 arg4 harg4 arg5 harg5 arg6 harg6 arg7 harg7 x0 x1 x2 x3 x4 b).1, ∀ x : p.1.shape.Idx, p.2 x = blockOf i x0 x1 x2 x3 b (p.1.emb x) := by
  have later (a d : Nat) (ha : a < 512 ∧ 128 ≤ a ∧ a % 128 = 0) (hd : d < 1024 ∧ d % 128 = 0) (inb)
      (P : (Rect.unit (s := S512x1024) ![a, d] ![128, 128] inb).shape.Idx → Elt F .bf16)
      (hP : P = tileT ⟨d / 512, by omega⟩ ⟨d % 512 / 128, by omega⟩
        (View.readAt (Elt F) arg4.view (Rect.unit (s := S512x512) ![128 * (a / 128) - 128, 0] S256x512.size (inbK ⟨a / 128, by omega⟩)).toLoadRect (harg4.unread x3))
        (fun k => View.readAt (Elt F) arg2.view (Rect.unit (s := S512x1024) ![128 * (a / 128), 128 * (4 * (d / 512) + k.val)] S128x128.size (inbQ ⟨a / 128, by omega⟩ ⟨4 * (d / 512) + k.val, by omega⟩)).toLoadRect (harg2.unread x1))
        (View.readAt (Elt F) arg7.view (Rect.unit (s := S2x2x1024x256) ![0, d / 512, 0, 0] S1x1x1024x256.size (inbB ⟨d / 512, by omega⟩)).toLoadRect (harg7.unread b))
        (fun j => View.readAt (Elt F) arg1.view (Rect.unit (s := S16) ![8 * (d / 512) + j.val] S1.size (inbS ⟨8 * (d / 512) + j.val, by omega⟩)).toLoadRect (harg1.unread x0) (Shape.Idx.first S1_pos)))
      (x : (Rect.unit (s := S512x1024) ![a, d] ![128, 128] inb).shape.Idx) :
      P x = blockOf i x0 x1 x2 x3 b ((Rect.unit (s := S512x1024) ![a, d] ![128, 128] inb).emb x) := by
    refine (congrFun hP x).trans (Eq.trans (congrFun ?_ x) (blockOf_emb i x0 x1 x2 x3 b ⟨a / 128, by omega⟩ ⟨d / 512, by omega⟩ ⟨d % 512 / 128, by omega⟩ (by show a = 128 * (a / 128); omega) (by show d = 512 * (d / 512) + 128 * (d % 512 / 128); omega) inb x).symm)
    congr 1
    · exact kvRead arg4 harg4 x2 x3 ⟨a / 128, by omega⟩ (by show a / 128 ≠ 0; omega) rfl _
    · exact funext fun k => qRead arg2 harg2 x1 ⟨a / 128, by omega⟩ ⟨4 * (d / 512) + k.val, by omega⟩ rfl rfl _
    · rw [copyOf, if_neg (by show a / 128 ≠ 0; omega)]
      exact biasRead arg7 harg7 b 0 ⟨d / 512, by omega⟩ _ rfl _
    · exact funext fun j => skRead arg1 harg1 x0 ⟨8 * (d / 512) + j.val, by omega⟩ rfl _ _
  have first (d : Nat) (hd : d < 1024 ∧ d % 128 = 0) (off : Fin 4 → Nat) (hoff : off = ![k0_off1 i 0, d / 512, 0, 0]) (inbo) (inb)
      (P : (Rect.unit (s := S512x1024) ![0, d] ![128, 128] inb).shape.Idx → Elt F .bf16)
      (hP : P = tileT ⟨d / 512, by omega⟩ ⟨d % 512 / 128, by omega⟩
        (k0_pay53 (View.readAt (Elt F) arg3.view (Rect.unit (s := S128x512) ![0, 0] S128x512.size inb_S128x512_S128x512_0_0).toLoadRect (harg3.unread x2))
          (View.readAt (Elt F) arg4.view (Rect.unit (s := S512x512) ![0, 0] S128x512.size inb_S512x512_S128x512_0_0).toLoadRect (harg4.unread x3)))
        (fun k => View.readAt (Elt F) arg2.view (Rect.unit (s := S512x1024) ![128 * 0, 128 * (4 * (d / 512) + k.val)] S128x128.size (inbQ 0 ⟨4 * (d / 512) + k.val, by omega⟩)).toLoadRect (harg2.unread x1))
        (View.readAt (Elt F) arg7.view (Rect.unit (s := S2x2x1024x256) off S1x1x1024x256.size inbo).toLoadRect (harg7.unread b))
        (fun j => View.readAt (Elt F) arg1.view (Rect.unit (s := S16) ![8 * (d / 512) + j.val] S1.size (inbS ⟨8 * (d / 512) + j.val, by omega⟩)).toLoadRect (harg1.unread x0) (Shape.Idx.first S1_pos)))
      (x : (Rect.unit (s := S512x1024) ![0, d] ![128, 128] inb).shape.Idx) :
      P x = blockOf i x0 x1 x2 x3 b ((Rect.unit (s := S512x1024) ![0, d] ![128, 128] inb).emb x) := by
    refine (congrFun hP x).trans (Eq.trans (congrFun ?_ x) (blockOf_emb i x0 x1 x2 x3 b 0 ⟨d / 512, by omega⟩ ⟨d % 512 / 128, by omega⟩ rfl (by show d = 512 * (d / 512) + 128 * (d % 512 / 128); omega) inb x).symm)
    congr 1
    · exact kvRead0 arg3 harg3 arg4 harg4 x2 x3 _ _
    · exact funext fun k => qRead arg2 harg2 x1 0 ⟨4 * (d / 512) + k.val, by omega⟩ rfl rfl _
    · rw [copyOf_first]
      exact biasRead arg7 harg7 b _ ⟨d / 512, by omega⟩ _ hoff _
    · exact funext fun j => skRead arg1 harg1 x0 ⟨8 * (d / 512) + j.val, by omega⟩ rfl _ _
  unfold bodyRun
  dsimp only
  repeat' refine List.forall_mem_cons.mpr ⟨?_, ?_⟩
  all_goals try dsimp only
  all_goals first
    | exact fun x => later _ _ (by decide) (by decide) _ _ (by sl_kernel_rfl) x
    | exact fun x => first _ (by decide) (k0_off1 i) rfl (k0_off1_inb i) _ _ (by sl_kernel_rfl) x
    | exact fun x => first _ (by decide) (k0_off2 i) rfl (k0_off2_inb i) _ _ (by sl_kernel_rfl) x
    | exact fun p hp => absurd hp List.not_mem_nil

end Cert.KernelIdeal.Attn
end
-- ==== Proof.Attn.Host.lean ====
/- What the attention kernel is handed by the operations before it: the sinks and the correction rows, and the blocks of
   its windows at every grid point. -/
module

public import proofs.«01_k».proof.Proof.Attn.FrameIdeal
public import proofs.«01_k».proof.Proof.Attn.Tile
public import Idealize.ShloMosaic.Lib.Pointwise
public import Idealize.ShloMosaic.Lib.Routing.Ops
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The sinks. -/
abbrev A0 : S16.Idx → EReal := m (c, Proc.tc.devRef main_arg0)
/-- The bias of every bucket and head. -/
abbrev A1 : S32x16.Idx → EReal := m (c, Proc.tc.devRef main_arg1)
/-- The queries. -/
abbrev A2 : S16384x1024.Idx → EReal := m (c, Proc.tc.devRef main_arg2)
/-- The keys and values. -/
abbrev A3 : S16384x512.Idx → EReal := m (c, Proc.tc.devRef main_arg3)

theorem idx2_ext {n0 n1 : Nat} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)

theorem idx2_eta {n0 n1 : Nat} (y : (⟨2, ![n0, n1]⟩ : Shape).Idx) : y = ix2 (n0 := n0) (n1 := n1) (y 0) (y 1) := idx2_ext rfl rfl

/-- What the sinks and the bias are multiplied by: 1 / log 2. -/
def perLog : EReal := Ideal.div (Ideal.ofBits FTy.f32 0x3F800000#32) (Ideal.log (Ideal.ofBits FTy.f32 0x40000000#32))

theorem ofBits_neg_inf : Ideal.ofBits FTy.f32 0xFF800000#32 = ⊥ := by
  simp [Ideal.ofBits, Ideal.ieee]

theorem ofBits_two : Ideal.ofBits FTy.f32 0x40000000#32 = ((2 : ℝ) : EReal) := by
  simp [Ideal.ofBits, Ideal.ieee, -EReal.coe_mul]; norm_num

theorem perLog_eq : perLog = (((Real.log 2)⁻¹ : ℝ) : EReal) := by
  have h : Real.log 2 ≠ 0 := (Real.log_pos (by norm_num)).ne'
  rw [perLog, ofBits_two, Ideal.ofBits_one_f32, Ideal.log_coe, if_neg (by norm_num), Ideal.div_coe h, one_mul, one_div]

theorem sinks_apply (h : Fin 16) : (V m c main_v17 : S16.Idx → EReal) (ix1 h) = A0 m c (ix1 h) * perLog := by
  entry_read
  pointwise []
  rw [perLog, Ideal.ofBits_one_f32]

/-- The bucket of a distance below 128. -/
def near (d : Fin 128) : Fin 32 := ⟨(lit0 d).toNat, by revert d; decide +kernel⟩

theorem near_apply (i : S128.Idx) (d : Fin 128) (h : (i 0).val = d.val) : lit0 (S128.rowMajor i) = BitVec.ofNat 32 (near d).val := by
  rw [show S128.rowMajor i = d from Fin.ext ((Shape.rowMajor_val_one i).trans h)]
  have hl : ∀ d : Fin 128, lit0 d = BitVec.ofNat 32 (near d).val := by decide +kernel
  exact hl d

/-- The correction rows made from the bias and the buckets: one column of −∞, the scaled bias of the distances 127 … 0, and
    127 columns of −∞. -/
def rowsOf (x1 : FVec Ideal S32x16 .f32) (L : IVec S128 32) : FVec Ideal S16x256 .f32 :=
  concatenate S16x256 1 [⟨S16x1, broadcastInDim S16x1 ![] bcast_S_S16x1 (constant S_ .f32 0xFF800000#32)⟩,
    ⟨S16x128, Host.reverse [1] (mulf (transpose S16x128 [1, 0] (Host.gather gather_S32x16_S128x1_S128x16_1_0_n_n_0_1_116 x1
      (broadcastInDim S128x1 ![0] bcast_S128_S128x1_0 (select (constantI S128 1 0#1) (addi L (broadcastInDim S128 ![] bcast_S_S128 (constantI S_ 32 32#32))) L)))
      transposes_S128x16_S16x128_1_0) (broadcastInDim S16x128 ![] bcast_S_S16x128 (Host.divf (constant S_ .f32 0x3F800000#32) (Host.log (constant S_ .f32 0x40000000#32)))))⟩,
    ⟨S16x127, broadcastInDim S16x127 ![] bcast_S_S16x127 (constant S_ .f32 0xFF800000#32)⟩] concatenates_S16x1_S16x128_S16x127_S16x256_d1

theorem rowsOf_eq (y : S16x256.Idx) : (V m c main_v13 : S16x256.Idx → EReal) y = rowsOf (A1 m c) (fun i => lit0 (S128.rowMajor i)) y := by
  sl_kernel_rfl

theorem rowsOf_apply (x1 : FVec Ideal S32x16 .f32) (L : IVec S128 32) (B : Fin 128 → Fin 32) (hL : ∀ d, L (ix1 d) = BitVec.ofNat 32 (B d).val)
    (h : Fin 16) (k : Fin 256) :
    rowsOf x1 L (ix2 h k) = if hk : 0 < k.val ∧ k.val ≤ 128 then (x1 (ix2 (B ⟨128 - k.val, by omega⟩) h) : EReal) * perLog else ⊥ := by
  have g : ∀ (d : Fin 128) (idx : IVec S128x1 32), idx (ix2 d 0) = BitVec.ofNat 32 (B d).val →
      Host.gather gather_S32x16_S128x1_S128x16_1_0_n_n_0_1_116 x1 idx (ix2 d h) = x1 (ix2 (B d) h) := fun d idx e =>
    Routing.gather_row (nb := 32) (B := 16) (n := 128) gather_S32x16_S128x1_S128x16_1_0_n_n_0_1_116 rfl rfl rfl rfl rfl x1 idx d h (B d) e (by decide)
  pointwise [rowsOf]
  by_cases h0 : k.val < 1
  · rw [dif_pos h0, dif_neg (by omega), ofBits_neg_inf]
  · rw [dif_neg h0]
    by_cases h1 : k.val - 1 < 128
    · rw [dif_pos h1, dif_pos ⟨by omega, by omega⟩]
      refine congrArg₂ (fun u v : EReal => u * v) ?_ (by rw [perLog, Ideal.ofBits_one_f32])
      have e : (⟨k.val - 1, h1⟩ : Fin 128).rev = ⟨128 - k.val, by omega⟩ := Fin.ext (by rw [Fin.val_rev]; show 128 - (k.val - 1 + 1) = 128 - k.val; omega)
      refine Eq.trans (congrArg (Host.gather gather_S32x16_S128x1_S128x16_1_0_n_n_0_1_116 x1 _) (show _ = ix2 (⟨128 - k.val, by omega⟩ : Fin 128) h from ?_)) (g _ _ ?_)
      · exact congrArg₂ ix2 ((if_pos (by decide)).trans e) (if_neg (by decide))
      pointwise []
      exact hL _
    · rw [dif_neg h1, dif_neg (by omega), ofBits_neg_inf]

theorem rows_apply (h : Fin 16) (k : Fin 256) :
    (V m c main_v13 : S16x256.Idx → EReal) (ix2 h k) = if hk : 0 < k.val ∧ k.val ≤ 128
      then A1 m c (ix2 (near ⟨128 - k.val, by omega⟩) h) * perLog else ⊥ := by
  refine (rowsOf_eq m c _).trans ?_
  exact rowsOf_apply (A1 m c) _ near (fun d => near_apply _ d rfl) h k

/-! Each window's block indices. -/

theorem index0 : ∀ t : Fin cfg0.N, win0_0.index t = ![0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![4 * t.val - 1, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)

/-- A grid point's number, below 32. -/
abbrev num (t : Fin cfg0.N) : Fin 32 := ⟨t.val, Nat.lt_of_lt_of_eq t.isLt N_0⟩

theorem blk0 (t : Fin cfg0.N) (h : Fin 16) :
    (iblk m c 0 t : S16.Idx → EReal) (ix1 h) = A0 m c (ix1 h) * perLog := by
  have e : iblk m c 0 t (ix1 h) = V m c main_v17 (ix1 h) := by
    blk_simp [iblk]
    refine congrArg _ (funext fun a => Fin.ext ?_)
    match a with
    | ⟨0, _⟩ => blk_simp [index0]
  rw [e, sinks_apply]

theorem blk4 (t : Fin cfg0.N) (h : Fin 16) (k : Fin 256) :
    iblk m c 4 t (ix2 h k) = V m c main_v13 (ix2 h k) := by
  blk_simp [iblk]
  exact congrArg _ (idx2_ext (n0 := 16) (n1 := 256) (by blk_simp [index4]) (by blk_simp [index4]))

theorem blk1 (t : Fin cfg0.N) (r : Fin 512) (q : Fin 1024) :
    iblk m c 1 t (ix2 r q) = A2 m c
      (ix2 ⟨512 * (num t).val + r.val, by have := (num t).isLt; omega⟩ q) := by
  have e : iblk m c 1 t (ix2 r q) = V m c main_arg2 (ix2 ⟨512 * (num t).val + r.val, by have := (num t).isLt; omega⟩ q) := by
    blk_simp [iblk]
    exact congrArg _ (idx2_ext (n0 := 16384) (n1 := 1024) (by blk_simp [index1]; show _ = 512 * t.val + r.val; omega) (by blk_simp [index1]))
  rw [e]; entry_read
  rfl

theorem blk2 (t : Fin cfg0.N) (r : Fin 128) (q : Fin 512) (ht : 0 < t.val) :
    iblk m c 2 t (ix2 r q) = A3 m c
      (ix2 ⟨512 * (num t).val + r.val - 128, by have := (num t).isLt; omega⟩ q) := by
  have e : iblk m c 2 t (ix2 r q) = V m c main_arg3 (ix2 ⟨512 * (num t).val + r.val - 128, by have := (num t).isLt; omega⟩ q) := by
    blk_simp [iblk]
    exact congrArg _ (idx2_ext (n0 := 16384) (n1 := 512) (by blk_simp [index2]; show _ = 512 * t.val + r.val - 128; omega) (by blk_simp [index2]))
  rw [e]; entry_read
  rfl

theorem blk3 (t : Fin cfg0.N) (r q : Fin 512) :
    iblk m c 3 t (ix2 r q) = A3 m c
      (ix2 ⟨512 * (num t).val + r.val, by have := (num t).isLt; omega⟩ q) := by
  have e : iblk m c 3 t (ix2 r q) = V m c main_arg3 (ix2 ⟨512 * (num t).val + r.val, by have := (num t).isLt; omega⟩ q) := by
    blk_simp [iblk]
    exact congrArg _ (idx2_ext (n0 := 16384) (n1 := 512) (by blk_simp [index3]; show _ = 512 * t.val + r.val; omega) (by blk_simp [index3]))
  rw [e]; entry_read
  rfl

/-- Which copy of the table the first row block of a point reads: the one that hides the first 128 keys, at the first point
    of a sequence. -/
theorem copy_eq (t : Fin cfg0.N) (r : Fin 4) : (copyOf (grid0.coords t) r).val = if r.val = 0 ∧ t.val % 8 = 0 then 1 else 0 := by
  have h : ∀ t : Fin grid0.N, k0_off1 (grid0.coords t) 0 = if t.val % 8 = 0 then 1 else 0 := by decide +kernel
  unfold copyOf
  by_cases hr : r.val = 0
  · rw [if_pos hr]
    refine (h t).trans ?_
    by_cases ht : t.val % 8 = 0
    · rw [if_pos ht, if_pos ⟨hr, ht⟩]
    · rw [if_neg ht, if_neg fun x => ht x.2]
  · rw [if_neg hr, if_neg fun x => hr x.1]; rfl

/-- A row of the filled table: at head `8·o + j`, query row `r` and key `k` the correction row of that head rotated by `r`. -/
theorem table_apply (x4 : S16x256.Idx → EReal) (t o : Fin 2) (j : Fin 8) (r : Fin 128) (k : Fin 256) :
    tableOf (F := Ideal) x4 (ix4 t o ⟨128 * j.val + r.val, by omega⟩ k)
      = if t.val = 0 ∨ 128 ≤ k.val then x4 (ix2 ⟨8 * o.val + j.val, by omega⟩ ⟨(k.val + 256 - r.val) % 256, by omega⟩) else ⊥ := by
  have row : ∀ (a : Fin 16) (k : Fin 256), rowAt (F := Ideal) x4 a (ix2 0 k) = x4 (ix2 a k) := fun _ _ => rfl
  have p4 : ∀ (w : Vec Ideal S1x256 .f32), k0_pay4 w (ix4 0 0 r k) = w (ix2 0 ⟨(k.val + 256 - r.val % 256) % 256, by omega⟩) := by
    intro w; pointwise [k0_pay4, k0_pay3]
  have hc : ∀ k : Fin 256, IntOp.cmpi .sge (BitVec.ofNat 32 k.val) 128#32 = if 128 ≤ k.val then 1#1 else 0#1 := by decide +kernel
  have p5 : ∀ (w : Vec Ideal S1x256 .f32), k0_pay5 w (ix4 0 0 r k) = if 128 ≤ k.val then w (ix2 0 ⟨(k.val + 256 - r.val % 256) % 256, by omega⟩) else ⊥ := by
    intro w; pointwise [k0_pay5, k0_pay3]
    rw [hc k, IdealRules.named_const.ideal_named_scalar Cert.KernelIdeal.κ "mask" _ ⊥ rfl]
    split_ifs <;> rfl
  have hr : r.val % 256 = r.val := Nat.mod_eq_of_lt (by omega)
  have hq : (128 * j.val + r.val) / 128 = j.val := by omega
  have hm : (⟨(128 * j.val + r.val) % 128, Nat.mod_lt _ (by decide)⟩ : Fin 128) = r := Fin.ext (by show (128 * j.val + r.val) % 128 = r.val; omega)
  have hrow : ∀ a : Nat, a = 8 * o.val + (128 * j.val + r.val) / 128 → a = 8 * o.val + j.val := fun a h => by omega
  unfold tableOf
  show (if t.val = 0 then k0_pay4 else k0_pay5) (rowAt (F := Ideal) x4 ⟨8 * o.val + (128 * j.val + r.val) / 128, _⟩) (ix4 0 0 ⟨(128 * j.val + r.val) % 128, _⟩ k) = _
  simp only [hq, hm]
  by_cases ht : t.val = 0
  · rw [if_pos ht, if_pos (.inl ht), p4, row]
    simp only [hr]
  · rw [if_neg ht, p5, row]
    by_cases hk : 128 ≤ k.val
    · rw [if_pos hk, if_pos (.inr hk)]
      simp only [hr]
    · rw [if_neg hk, if_neg (by omega)]

end Cert.KernelIdeal.Attn

end
-- ==== Proof.Attn.Softmax.lean ====
/- Two ways to write one row of attention over the extended reals: weights as powers of two with one division after the
   sum over the values, and weights as exponentials, each divided before it. They agree where every score and the sink
   lie below ⊤, some score is real, and the second row's scores and sink are the first's times log 2. -/
module

public import Idealize.ShloMosaic.PureOps.Ideal.Laws

@[expose] public section

noncomputable section

namespace Cert.Attention

open Idealize.ShloMosaic

/-- The greatest of a row's scores and its sink. -/
def top (s : Fin 256 → EReal) (sk : EReal) : EReal := max (Finset.univ.fold max ⊥ s) sk

/-- A row in powers of two: the weighted values over the weights' sum and the sink's weight. -/
def attend2 (s v : Fin 256 → EReal) (sk : EReal) : EReal :=
  Ideal.div (∑ k, Ideal.exp2 (s k - top s sk) * v k) ((∑ k, Ideal.exp2 (s k - top s sk)) + Ideal.exp2 (sk - top s sk))

/-- A row in exponentials, each weight divided before the sum over the values. -/
def attend (s v : Fin 256 → EReal) (sk : EReal) : EReal :=
  ∑ k, v k * Ideal.div (Ideal.exp (s k - top s sk)) ((∑ k, Ideal.exp (s k - top s sk)) + Ideal.exp (sk - top s sk))

/-- A finite sum of reals is a real. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A nonnegative real factor goes into a sum of any extended reals. -/
theorem sum_mul_coe {ι : Type*} (t : Finset ι) (f : ι → EReal) {c : ℝ} (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih,
      EReal.right_distrib_of_nonneg_of_ne_top (EReal.coe_nonneg.mpr hc) (EReal.coe_ne_top c)]

theorem log_two_pos : 0 < Real.log 2 := Real.log_pos (by norm_num)

/-- Multiplying scores and sink by log 2 multiplies the maximum by it. -/
theorem top_mul (s : Fin 256 → EReal) (sk : EReal) :
    top (fun k => s k * (Real.log 2 : EReal)) (sk * (Real.log 2 : EReal)) = top s sk * (Real.log 2 : EReal) := by
  have hm : Monotone fun x : EReal => x * (Real.log 2 : EReal) := fun x y h =>
    mul_le_mul_of_nonneg_right h (EReal.coe_nonneg.mpr log_two_pos.le)
  have hx : ∀ x y : EReal, (fun x : EReal => x * (Real.log 2 : EReal)) (max x y) = max (x * (Real.log 2 : EReal)) (y * (Real.log 2 : EReal)) :=
    fun x y => hm.map_max
  unfold top
  have h := Finset.fold_hom (op := max) (op' := max) (s := Finset.univ) (f := s) (b := (⊥ : EReal)) (m := fun x : EReal => x * (Real.log 2 : EReal)) hx
  have hb : (⊥ : EReal) * (Real.log 2 : EReal) = ⊥ := EReal.bot_mul_coe_of_pos log_two_pos
  beta_reduce at h
  rw [hb] at h
  rw [h]
  exact (hx _ _).symm

/-- A score's weight against a real maximum, in both spellings: one nonnegative real, zero exactly where the score is −∞. -/
theorem weight (M : ℝ) {x : EReal} (h : x < ⊤) :
    ∃ w : ℝ, 0 ≤ w ∧ (x = ⊥ → w = 0) ∧ (x ≠ ⊥ → 0 < w) ∧ Ideal.exp2 (x - (M : EReal)) = (w : EReal)
      ∧ Ideal.exp (x * (Real.log 2 : EReal) - (M : EReal) * (Real.log 2 : EReal)) = (w : EReal) := by
  induction x with
  | top => exact absurd h (lt_irrefl _)
  | bot =>
    refine ⟨0, le_refl _, fun _ => rfl, fun h => absurd rfl h, ?_, ?_⟩
    · rw [show (⊥ : EReal) - (M : EReal) = ⊥ from by simp]; rfl
    · rw [EReal.bot_mul_coe_of_pos log_two_pos, ← EReal.coe_mul, show (⊥ : EReal) - ((M * Real.log 2 : ℝ) : EReal) = ⊥ from by simp]; rfl
  | coe r =>
    refine ⟨Real.rpow 2 (r - M), (Real.rpow_pos_of_pos two_pos _).le, fun h => absurd h (EReal.coe_ne_bot r),
      fun _ => Real.rpow_pos_of_pos two_pos _, ?_, ?_⟩
    · rw [← EReal.coe_sub, Ideal.exp2_coe]
    · rw [← EReal.coe_mul, ← EReal.coe_mul, ← EReal.coe_sub, Ideal.exp_coe]
      congr 1
      show _ = (2 : ℝ) ^ (r - M)
      rw [Real.rpow_def_of_pos two_pos]
      congr 1; ring

/-- The two spellings agree. -/
theorem attend2_eq_attend (s v s' v' : Fin 256 → EReal) (sk sk' : EReal) (hs : ∀ k, s k = s' k * (Real.log 2 : EReal))
    (hsk : sk = sk' * (Real.log 2 : EReal)) (hlt : ∀ k, s' k < ⊤) (hklt : sk' < ⊤) (hv : ∀ k, s' k = ⊥ ∨ v' k = v k)
    (k₀ : Fin 256) (h₀ : s' k₀ ≠ ⊥) : attend2 s' v' sk' = attend s v sk := by
  obtain rfl : s = fun k => s' k * (Real.log 2 : EReal) := funext hs
  obtain rfl := hsk
  have hne : top s' sk' ≠ ⊥ := fun h => by
    have h1 : ⊥ < top s' sk' := lt_max_of_lt_left
      ((Finset.lt_fold_max _).mpr (Or.inr ⟨k₀, Finset.mem_univ _, bot_lt_iff_ne_bot.mpr h₀⟩))
    exact absurd h h1.ne'
  have hnt : top s' sk' ≠ ⊤ := (max_lt ((Finset.fold_max_lt _).mpr ⟨bot_lt_top, fun k _ => hlt k⟩) hklt).ne
  obtain ⟨M, hM⟩ : ∃ M : ℝ, top s' sk' = (M : EReal) := ⟨(top s' sk').toReal, (EReal.coe_toReal hnt hne).symm⟩
  choose w hw0 hwb hwp hw2 hwe using fun k => weight M (hlt k)
  obtain ⟨σ, hσ0, -, -, hσ2, hσe⟩ := weight M hklt
  unfold attend2 attend
  rw [top_mul, hM]
  simp only [hw2, hwe, hσ2, hσe]
  rw [coe_sum, ← EReal.coe_add]
  have hpos : 0 < ∑ k, w k + σ :=
    add_pos_of_pos_of_nonneg (Finset.sum_pos' (fun k _ => hw0 k) ⟨k₀, Finset.mem_univ _, hwp k₀ h₀⟩) hσ0
  simp only [Ideal.div_coe hpos.ne']
  rw [sum_mul_coe _ _ (by positivity)]
  refine Finset.sum_congr rfl fun k _ => ?_
  rcases hv k with h | h
  · rw [hwb k h]; simp
  · rw [h, mul_comm (w k : EReal), mul_assoc]

end Cert.Attention

end
-- ==== Proof.Attn.Elements.lean ====
/- One element of the attention kernel's tile: the softmax of one head over the 256 keys of its window, in powers of two. -/
module

public import proofs.«01_k».proof.Proof.Attn.Host
public import proofs.«01_k».proof.Proof.Attn.Softmax
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic

/-- A sum over 128 lanes that keeps only the lower 64. -/
theorem sum_low (f : Fin 128 → EReal) :
    ∑ x : Fin 128, Scalar.select (IntOp.cmpi .slt (BitVec.ofNat 32 x.val) 64#32) (f x) 0 = ∑ d : Fin 64, f ⟨64 * 0 + d.val, by omega⟩ := by
  have lo : ∀ d : Fin 64, IntOp.cmpi .slt (BitVec.ofNat 32 d.val) 64#32 = 1#1 := by decide +kernel
  have hi : ∀ d : Fin 64, IntOp.cmpi .slt (BitVec.ofNat 32 (64 + d.val)) 64#32 = 0#1 := by decide +kernel
  refine (Fin.sum_univ_add (a := 64) (b := 64) (fun x : Fin (64 + 64) => Scalar.select (IntOp.cmpi .slt (BitVec.ofNat 32 x.val) 64#32) (f x) 0)).trans ?_
  have e2 : ∑ d : Fin 64, Scalar.select (IntOp.cmpi .slt (BitVec.ofNat 32 (Fin.natAdd 64 d).val) 64#32) (f (Fin.natAdd 64 d)) 0 = 0 :=
    Finset.sum_eq_zero fun d _ => by
      rw [show (Fin.natAdd 64 d).val = 64 + d.val from rfl, hi d]; rfl
  rw [e2, add_zero]
  refine Finset.sum_congr rfl fun d _ => ?_
  rw [show (Fin.castAdd 64 d).val = d.val from rfl, lo d]
  exact congrArg f (Fin.ext (by show d.val = 64 * 0 + d.val; omega))

/-- A sum over 128 lanes that keeps only the upper 64. -/
theorem sum_high (f : Fin 128 → EReal) :
    ∑ x : Fin 128, Scalar.select (IntOp.xori (IntOp.cmpi .slt (BitVec.ofNat 32 x.val) 64#32) 1#1) (f x) 0 = ∑ d : Fin 64, f ⟨64 * 1 + d.val, by omega⟩ := by
  have lo : ∀ d : Fin 64, IntOp.xori (IntOp.cmpi .slt (BitVec.ofNat 32 d.val) 64#32) 1#1 = 0#1 := by decide +kernel
  have hi : ∀ d : Fin 64, IntOp.xori (IntOp.cmpi .slt (BitVec.ofNat 32 (64 + d.val)) 64#32) 1#1 = 1#1 := by decide +kernel
  refine (Fin.sum_univ_add (a := 64) (b := 64) (fun x : Fin (64 + 64) => Scalar.select (IntOp.xori (IntOp.cmpi .slt (BitVec.ofNat 32 x.val) 64#32) 1#1) (f x) 0)).trans ?_
  have e2 : ∑ d : Fin 64, Scalar.select (IntOp.xori (IntOp.cmpi .slt (BitVec.ofNat 32 (Fin.castAdd 64 d).val) 64#32) 1#1) (f (Fin.castAdd 64 d)) 0 = 0 :=
    Finset.sum_eq_zero fun d _ => by
      rw [show (Fin.castAdd 64 d).val = d.val from rfl, lo d]; rfl
  rw [e2, zero_add]
  refine Finset.sum_congr rfl fun d _ => ?_
  rw [show (Fin.natAdd 64 d).val = 64 + d.val from rfl, hi d]
  exact congrArg f (Fin.ext (by show 64 + d.val = 64 * 1 + d.val; omega))

/-- The score of head slot `n + 4·g` at query row `r` and key `k`: 64 lanes of queries against keys, plus the correction. -/
def scoreK (kb : FVec Ideal S256x128 .bf16) (q : Fin 4 → Vec Ideal S128x128 .bf16) (bias : Vec Ideal S1x1x1024x256 .f32)
    (n : Fin 4) (g : Fin 2) (r : Fin 128) (k : Fin 256) : EReal :=
  (∑ d : Fin 64, (q n (ix2 r ⟨64 * g.val + d.val, by omega⟩) : EReal) * kb (ix2 k ⟨64 * g.val + d.val, by omega⟩))
    + bias (ix4 0 0 ⟨128 * (n.val + 4 * g.val) + r.val, by omega⟩ k)

/-- A head slot. -/
abbrev slot (n : Fin 4) (g : Fin 2) : Fin 8 := ⟨n.val + 4 * g.val, by omega⟩

theorem scoresT_apply (kb : FVec Ideal S256x128 .bf16) (q : Fin 4 → Vec Ideal S128x128 .bf16) (bias : Vec Ideal S1x1x1024x256 .f32)
    (n : Fin 4) (g : Fin 2) (r : Fin 128) (k : Fin 256) :
    scoresT kb q bias (ix2 ⟨128 * (slot n g).val + r.val, by omega⟩ k) = scoreK kb q bias n g r k := by
  pointwise [scoresT, k0_pay58, k0_pay51, k0_pay56, k0_pay57]
  unfold scoreK
  refine congrArg (fun t : EReal => t + bias (ix4 0 0 ⟨128 * (n.val + 4 * g.val) + r.val, by omega⟩ k)) ?_
  match g with
  | 0 =>
    rw [dif_pos (by show 128 * (n.val + 4 * 0) + r.val < 512; omega)]
    refine Eq.trans ?_ (sum_low (fun x => (q n (ix2 r x) : EReal) * kb (ix2 k x)))
    refine Finset.sum_congr rfl fun x _ => ?_
    refine congrArg (fun t : EReal => Scalar.select (IntOp.cmpi .slt (BitVec.ofNat 32 x.val) 64#32) (t * kb (ix2 k x)) 0) ?_
    have pick : ∀ (m : Fin 4) (a : Nat) (ha : a < 128), m.val = n.val → a = r.val → q m (ix2 ⟨a, ha⟩ x) = q n (ix2 r x) := by
      intro m a ha hm h
      obtain rfl := Fin.ext hm
      subst h; rfl
    have hn := n.isLt
    have hr := r.isLt
    split_ifs <;> exact pick _ _ _ (by first | omega | (simp; omega)) (by omega)
  | 1 =>
    rw [dif_neg (by show ¬ 128 * (n.val + 4 * 1) + r.val < 512; omega)]
    refine Eq.trans ?_ (sum_high (fun x => (q n (ix2 r x) : EReal) * kb (ix2 k x)))
    refine Finset.sum_congr rfl fun x _ => ?_
    refine congrArg (fun t : EReal => Scalar.select (IntOp.xori (IntOp.cmpi .slt (BitVec.ofNat 32 x.val) 64#32) 1#1) (t * kb (ix2 k x)) 0) ?_
    have pick : ∀ (m : Fin 4) (a : Nat) (ha : a < 128), m.val = n.val → a = r.val → q m (ix2 ⟨a, ha⟩ x) = q n (ix2 r x) := by
      intro m a ha hm h
      obtain rfl := Fin.ext hm
      subst h; rfl
    have hn := n.isLt
    have hr := r.isLt
    split_ifs <;> exact pick _ _ _ (by first | omega | (simp; omega)) (by omega)

/-- A head's scores in a row of it. -/
abbrev rowOf (s : FVec Ideal S1024x256 .f32) (j : Fin 8) (r : Fin 128) (k : Fin 256) : EReal :=
  s (ix2 ⟨128 * j.val + r.val, by omega⟩ k)

theorem maxT_apply (s : FVec Ideal S1024x256 .f32) (sk : Fin 8 → Elt Ideal .f32) (j : Fin 8) (r : Fin 128) :
    maxT s sk j (ix2 r 0) = Cert.Attention.top (rowOf s j r) (sk j) := by
  pointwise [maxT, headT]
  rw [Cert.Attention.top]
  exact congrArg (fun t : EReal => max (Finset.univ.fold max t _) _) ofBits_neg_inf

theorem expT_apply (s : FVec Ideal S1024x256 .f32) (sk : Fin 8 → Elt Ideal .f32) (j : Fin 8) (r : Fin 128) (k : Fin 256) :
    expT s sk j (ix2 r k) = Ideal.exp2 (rowOf s j r k - Cert.Attention.top (rowOf s j r) (sk j)) := by
  pointwise [expT, headT]
  rw [maxT_apply]
  rfl

theorem sumT_apply (vb : FVec Ideal S256x128 .bf16) (s : FVec Ideal S1024x256 .f32) (sk : Fin 8 → Elt Ideal .f32) (j : Fin 8) (r : Fin 128)
    (k : Fin 256) :
    sumT vb s sk (ix2 ⟨128 * j.val + r.val, by omega⟩ k)
      = ∑ x : Fin 256, (expT s sk j (ix2 r x) : EReal) * (if h : k.val < 128 then vb (ix2 x ⟨k.val, h⟩) else 1) := by
  pointwise [sumT]
  refine Finset.sum_congr rfl fun x _ => ?_
  refine congrArg₂ (fun u v : EReal => u * v) ?_ rfl
  have pick : ∀ (m : Fin 8) (a : Nat) (ha : a < 128), m.val = j.val → a = r.val → expT s sk m (ix2 ⟨a, ha⟩ x) = expT s sk j (ix2 r x) := by
    intro m a ha hm h
    obtain rfl := Fin.ext hm
    subst h; rfl
  have hj := j.isLt
  have hr := r.isLt
  split_ifs <;> exact pick _ _ _ (by first | omega | (simp; omega)) (by omega)

theorem quotT_apply (vb : FVec Ideal S256x128 .bf16) (s : FVec Ideal S1024x256 .f32) (sk : Fin 8 → Elt Ideal .f32) (j : Fin 8) (r k : Fin 128) :
    quotT vb s sk j (ix2 r k) = Cert.Attention.attend2 (rowOf s j r) (fun x => vb (ix2 x k)) (sk j) := by
  pointwise [quotT, sinkT]
  have e1 := sumT_apply vb s sk j r ⟨k.val, by omega⟩
  have e2 := sumT_apply vb s sk j r ⟨128 + k.val, by omega⟩
  simp only [dif_pos k.isLt] at e1
  simp only [show ¬ 128 + k.val < 128 by omega, dif_neg, not_false_iff, mul_one] at e2
  rw [e1, e2, maxT_apply]
  simp only [expT_apply]
  rfl

/-- An element of a tile. -/
theorem tileT_apply (o : Fin 2) (n : Fin 4) (kv : FVec Ideal S256x512 .bf16) (q : Fin 4 → Vec Ideal S128x128 .bf16) (bias : Vec Ideal S1x1x1024x256 .f32)
    (sk : Fin 8 → Elt Ideal .f32) (r : Fin 128) (g : Fin 2) (d : Fin 64) :
    tileT o n kv q bias sk (ix2 r ⟨64 * g.val + d.val, by omega⟩)
      = Cert.Attention.attend2
          (fun k => (∑ x : Fin 64, (q n (ix2 r ⟨64 * g.val + x.val, by omega⟩) : EReal) * kv (ix2 k ⟨128 * o.val + (64 * g.val + x.val), by omega⟩))
            + bias (ix4 0 0 ⟨128 * (n.val + 4 * g.val) + r.val, by omega⟩ k))
          (fun k => kv (ix2 k ⟨256 + 128 * o.val + (64 * g.val + d.val), by omega⟩)) (sk (slot n g)) := by
  unfold tileT
  pointwise [k0_pay52]
  have scores : ∀ k : Fin 256, rowOf (scoresT (extractStridedSlice S256x128 ![0, 128 * o.val] kv (slices_lanes o)) q bias) (slot n g) r k
      = (∑ x : Fin 64, (q n (ix2 r ⟨64 * g.val + x.val, by omega⟩) : EReal) * kv (ix2 k ⟨128 * o.val + (64 * g.val + x.val), by omega⟩))
        + bias (ix4 0 0 ⟨128 * (n.val + 4 * g.val) + r.val, by omega⟩ k) := by
    intro k
    refine (scoresT_apply _ q bias n g r k).trans ?_
    unfold scoreK
    pointwise []
  have values : ∀ k : Fin 256, extractStridedSlice S256x128 ![0, 256 + 128 * o.val] kv (slices_lanes' o) (ix2 k ⟨64 * g.val + d.val, by omega⟩)
      = kv (ix2 k ⟨256 + 128 * o.val + (64 * g.val + d.val), by omega⟩) := by
    intro k
    pointwise []
  rw [← funext scores, ← funext values, ← quotT_apply _ _ sk (slot n g) r _]
  have lo : ∀ d : Fin 64, IntOp.cmpi .slt (BitVec.ofNat 32 (64 * 0 + d.val)) 64#32 = 1#1 := by decide +kernel
  have hi : ∀ d : Fin 64, IntOp.cmpi .slt (BitVec.ofNat 32 (64 * 1 + d.val)) 64#32 = 0#1 := by decide +kernel
  match g with
  | 0 => exact (congrArg (fun c => Scalar.select c _ _) (lo d)).trans rfl
  | 1 => exact (congrArg (fun c => Scalar.select c _ _) (hi d)).trans rfl

end Cert.KernelIdeal.Attn

end
-- ==== Proof.Attn.Reference.lean ====
/- The attention's reference, stage by stage: names for the values that its host operations pass through, and each read at
   one element over the extended reals. -/
module

public import proofs.«01_k».proof.Proof.Gen.ReferenceIdeal.Run
public import proofs.«01_k».proof.Proof.Attn.Softmax
public import Idealize.ShloMosaic.Lib.Pointwise
public import Idealize.ShloMosaic.Lib.ValueIdxCore
public import Idealize.ShloMosaic.Lib.Claim

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.ShloMosaic.Tactic Idealize.SL.Sem

section
variable {F : FTy → Type} [FloatOps F]

/-- How far behind a query row the key at a column of its window stands. -/
def distR : IVec S128x256 32 :=
  subi (broadcastInDim S128x256 ![0, 1] bcast_S128x1_S128x256_0_1 (addi (broadcastInDim S128x1 ![0] bcast_S128_S128x1_0 (iotaInDim S128 32
    0)) (broadcastInDim S128x1 ![] bcast_S_S128x1 (constantI S_ 32 128#32)))) (broadcastInDim S128x256 ![0, 1] bcast_S1x256_S128x256_0_1
    (broadcastInDim S1x256 ![1] bcast_S256_S1x256_1 (iotaInDim S256 32 0)))

/-- That distance, nothing below zero. -/
def nearR : IVec S128x256 32 :=
  maxsi distR (broadcastInDim S128x256 ![] bcast_S_S128x256 (constantI S_ 32 0#32))

/-- The bucket of a distance. -/
def bucketR : IVec S128x256 32 :=
  Host.gather gather_S256_S128x256x1_S128x256_n_0_n_n_0_2_1 ((fun i => lit0 (S256.rowMajor i))) (broadcastInDim S128x256x1 ![0, 1]
    bcast_S128x256_S128x256x1_0_1 (select (cmpi .slt nearR (broadcastInDim S128x256 ![] bcast_S_S128x256 (constantI S_ 32 0#32))) (addi
    nearR (broadcastInDim S128x256 ![] bcast_S_S128x256 (constantI S_ 32 256#32))) nearR))

/-- The bias of every head at every query row and key column. -/
def biasR (x1 : FVec F S32x16 .f32) : FVec F S128x256x16 .f32 :=
  Host.gather gather_S32x16_S128x256x1_S128x256x16_2_0_n_n_0_2_116 x1 (broadcastInDim S128x256x1 ![0, 1] bcast_S128x256_S128x256x1_0_1
    (select (cmpi .slt bucketR (broadcastInDim S128x256 ![] bcast_S_S128x256 (constantI S_ 32 0#32))) (addi bucketR (broadcastInDim
    S128x256 ![] bcast_S_S128x256 (constantI S_ 32 32#32))) bucketR))

/-- One half of the keys and values, a block of zeros put before every sequence. -/
def padR (h : FVec F S16384x256 .bf16) : FVec F S4x33x128x4x64 .f32 :=
  shapeCast _ (pad S4x4224x256 ![0, 128, 0] ![0, 0, 0] ![0, 0, 0] (shapeCast _ (extf .f32 h bitsLt_bf16_f32)
    shapeCasts_S16384x256_S4x4096x256) (sitofp .f32 (constantI S_ 32 0#32)) pads_S4x4096x256_S4x4224x256_000_12800_000 h_S_)
    shapeCasts_S4x4224x256_S4x33x128x4x64

/-- The windows of such a half: each row block after the block before it. -/
def windowR (h : FVec F S16384x256 .bf16) : FVec F S4x32x256x4x64 .f32 :=
  concatenate S4x32x256x4x64 2 [⟨S4x32x128x4x64, (extractStridedSlice S4x32x128x4x64 ![0, 0, 0, 0, 0] (padR h)
    slices_S4x33x128x4x64_S4x32x128x4x64_0_0_0_0_0)⟩, ⟨S4x32x128x4x64, (extractStridedSlice S4x32x128x4x64 ![0, 1, 0, 0, 0] (padR h)
    slices_S4x33x128x4x64_S4x32x128x4x64_0_1_0_0_0)⟩] concatenates_S4x32x128x4x64_S4x32x128x4x64_S4x32x256x4x64_d2

/-- The keys of each row block's window: the block before it (zeros before the first) and its own. -/
def keyR (x3 : FVec F S16384x512 .bf16) : FVec F S4x32x256x4x64 .f32 :=
  windowR (extractStridedSlice S16384x256 ![0, 0] x3 slices_S16384x512_S16384x256_0_0)

/-- The values of the same windows. -/
def valueR (x3 : FVec F S16384x512 .bf16) : FVec F S4x32x256x4x64 .f32 :=
  windowR (extractStridedSlice S16384x256 ![0, 256] x3 slices_S16384x512_S16384x256_0_256)

/-- The queries, head by head, their scale undone. -/
def queryR (x2 : FVec F S16384x1024 .bf16) : FVec F S4x32x128x4x4x64 .f32 :=
  mulf (shapeCast _ (transpose S4x32x128x2x2x4x64 [0, 1, 2, 3, 5, 4, 6] (shapeCast _ (extf .f32 x2 bitsLt_bf16_f32)
    shapeCasts_S16384x1024_S4x32x128x2x4x2x64) transposes_S4x32x128x2x4x2x64_S4x32x128x2x2x4x64_0_1_2_3_5_4_6)
    shapeCasts_S4x32x128x2x2x4x64_S4x32x128x4x4x64) (broadcastInDim S4x32x128x4x4x64 ![] bcast_S_S4x32x128x4x4x64 (mulf (Host.log (constant
    S_ .f32 0x40000000#32)) (constant S_ .f32 0x41000000#32)))

/-- Which keys of a window a query row sees. -/
def validR : IVec S32x128x256 1 :=
  andi (broadcastInDim S32x128x256 ![0, 1, 2] bcast_S1x128x256_S32x128x256_0_1_2 (broadcastInDim S1x128x256 ![1, 2]
    bcast_S128x256_S1x128x256_1_2 (andi (cmpi .sge distR (broadcastInDim S128x256 ![] bcast_S_S128x256 (constantI S_ 32 0#32))) (cmpi .slt
    distR (broadcastInDim S128x256 ![] bcast_S_S128x256 (constantI S_ 32 128#32)))))) (broadcastInDim S32x128x256 ![0, 1, 2]
    bcast_S32x1x256_S32x128x256_0_1_2 (cmpi .sge (subi (addi (broadcastInDim S32x1x256 ![0, 1, 2] bcast_S32x1x1_S32x1x256_0_1_2 (muli
    (broadcastInDim S32x1x1 ![0] bcast_S32_S32x1x1_0 (iotaInDim S32 32 0)) (broadcastInDim S32x1x1 ![] bcast_S_S32x1x1 (constantI S_ 32
    128#32)))) (broadcastInDim S32x1x256 ![0, 1, 2] bcast_S1x1x256_S32x1x256_0_1_2 (broadcastInDim S1x1x256 ![1, 2]
    bcast_S1x256_S1x1x256_1_2 (broadcastInDim S1x256 ![1] bcast_S256_S1x256_1 (iotaInDim S256 32 0))))) (broadcastInDim S32x1x256 ![]
    bcast_S_S32x1x256 (constantI S_ 32 128#32))) (broadcastInDim S32x1x256 ![] bcast_S_S32x1x256 (constantI S_ 32 0#32))))

/-- Keys against queries. -/
def dotR (x2 : FVec F S16384x1024 .bf16) (x3 : FVec F S16384x512 .bf16) : FVec F S4x32x4x256x128x4 .f32 :=
  Host.dotGeneral dot_S4x32x256x4x64_S4x32x128x4x4x64_S4x32x4x256x128x4_4_5_2_24_013_013 none (keyR x3) (queryR x2)

/-- The scores, −∞ where a key is not seen. -/
def scoreR (x1 : FVec F S32x16 .f32) (x2 : FVec F S16384x1024 .bf16) (x3 : FVec F S16384x512 .bf16) : FVec F S4x32x4x4x128x256 .f32 :=
  select (broadcastInDim S4x32x4x4x128x256 ![0, 1, 2, 3, 4, 5] bcast_S1x32x1x1x128x256_S4x32x4x4x128x256_0_1_2_3_4_5 (broadcastInDim
    S1x32x1x1x128x256 ![1, 4, 5] bcast_S32x128x256_S1x32x1x1x128x256_1_4_5 validR)) (addf (mulf (transpose S4x32x4x4x128x256 [0, 1, 2, 5,
    4, 3] (dotR x2 x3) transposes_S4x32x4x256x128x4_S4x32x4x4x128x256_0_1_2_5_4_3) (broadcastInDim S4x32x4x4x128x256 ![]
    bcast_S_S4x32x4x4x128x256 (constant S_ .f32 0x3E000000#32))) (broadcastInDim S4x32x4x4x128x256 ![0, 1, 2, 3, 4, 5]
    bcast_S1x1x4x4x128x256_S4x32x4x4x128x256_0_1_2_3_4_5 (broadcastInDim S1x1x4x4x128x256 ![2, 3, 4, 5]
    bcast_S4x4x128x256_S1x1x4x4x128x256_2_3_4_5 (shapeCast _ (transpose S16x128x256 [2, 0, 1] (biasR x1)
    transposes_S128x256x16_S16x128x256_2_0_1) shapeCasts_S16x128x256_S4x4x128x256)))) (broadcastInDim S4x32x4x4x128x256 ![]
    bcast_S_S4x32x4x4x128x256 (id (constant S_ .f32 0xFF800000#32)))

/-- The rows' maxima, the sinks among them. -/
def maxR (x0 : FVec F S16 .f32) (x1 : FVec F S32x16 .f32) (x2 : FVec F S16384x1024 .bf16) (x3 : FVec F S16384x512 .bf16) : FVec F S4x32x4x4x128 .f32 :=
  maximumf (Host.reduce FloatOps.maximumf (scoreR x1 x2 x3) (constant S_ .f32 0xFF800000#32) reducesTo_S4x32x4x4x128x256_S4x32x4x4x128_d5
    h_S_) (broadcastInDim S4x32x4x4x128 ![0, 1, 2, 3, 4] bcast_S1x1x4x4x1_S4x32x4x4x128_0_1_2_3_4 (broadcastInDim S1x1x4x4x1 ![2, 3, 4]
    bcast_S4x4x1_S1x1x4x4x1_2_3_4 (shapeCast _ x0 shapeCasts_S16_S4x4x1)))

/-- The weights, before division. -/
def expR (x0 : FVec F S16 .f32) (x1 : FVec F S32x16 .f32) (x2 : FVec F S16384x1024 .bf16) (x3 : FVec F S16384x512 .bf16) : FVec F S4x32x4x4x128x256 .f32 :=
  Host.exp (subf (scoreR x1 x2 x3) (broadcastInDim S4x32x4x4x128x256 ![0, 1, 2, 3, 4, 5]
    bcast_S4x32x4x4x128x1_S4x32x4x4x128x256_0_1_2_3_4_5 (broadcastInDim S4x32x4x4x128x1 ![0, 1, 2, 3, 4]
    bcast_S4x32x4x4x128_S4x32x4x4x128x1_0_1_2_3_4 (maxR x0 x1 x2 x3))))

/-- The weights. -/
def probR (x0 : FVec F S16 .f32) (x1 : FVec F S32x16 .f32) (x2 : FVec F S16384x1024 .bf16) (x3 : FVec F S16384x512 .bf16) : FVec F S4x32x4x4x128x256 .f32 :=
  Host.divf (expR x0 x1 x2 x3) (broadcastInDim S4x32x4x4x128x256 ![0, 1, 2, 3, 4, 5] bcast_S4x32x4x4x128x1_S4x32x4x4x128x256_0_1_2_3_4_5
    (broadcastInDim S4x32x4x4x128x1 ![0, 1, 2, 3, 4] bcast_S4x32x4x4x128_S4x32x4x4x128x1_0_1_2_3_4 (addf (Host.reduceAdd (expR x0 x1 x2 x3)
    (constant S_ .f32 0x00000000#32) reducesTo_S4x32x4x4x128x256_S4x32x4x4x128_d5 h_S_) (Host.exp (subf (broadcastInDim S4x32x4x4x128 ![0,
    1, 2, 3, 4] bcast_S1x1x4x4x1_S4x32x4x4x128_0_1_2_3_4 (broadcastInDim S1x1x4x4x1 ![2, 3, 4] bcast_S4x4x1_S1x1x4x4x1_2_3_4 (shapeCast _
    x0 shapeCasts_S16_S4x4x1))) (maxR x0 x1 x2 x3))))))

/-- The weighted values. -/
def ctxR (x0 : FVec F S16 .f32) (x1 : FVec F S32x16 .f32) (x2 : FVec F S16384x1024 .bf16) (x3 : FVec F S16384x512 .bf16) : FVec F S4x32x4x64x4x128 .f32 :=
  Host.dotGeneral dot_S4x32x256x4x64_S4x32x4x4x128x256_S4x32x4x64x4x128_2_5_4_34_013_012 none (valueR x3) (probR x0 x1 x2 x3)

/-- The result. -/
def resultR (x0 : FVec F S16 .f32) (x1 : FVec F S32x16 .f32) (x2 : FVec F S16384x1024 .bf16) (x3 : FVec F S16384x512 .bf16) : FVec F S16384x1024 .bf16 :=
  truncf .bf16 (shapeCast _ (transpose S4x32x128x2x4x2x64 [0, 1, 2, 3, 5, 4, 6] (shapeCast _ (transpose S4x32x128x4x4x64 [0, 1, 5, 2, 4, 3]
    (ctxR x0 x1 x2 x3) transposes_S4x32x4x64x4x128_S4x32x128x4x4x64_0_1_5_2_4_3) shapeCasts_S4x32x128x4x4x64_S4x32x128x2x2x4x64)
    transposes_S4x32x128x2x2x4x64_S4x32x128x2x4x2x64_0_1_2_3_5_4_6) shapeCasts_S4x32x128x2x4x2x64_S16384x1024) bitsLt_bf16_f32

theorem res_eq (m : (ℓ : Loc nD τ sig) → Buf (Elt F) ℓ) (c : Dev nD) :
    res_main_v104 m c = resultR (F := F) (m ((c.tc : Thread nD τ).loc main_arg0)) (m ((c.tc : Thread nD τ).loc main_arg1))
      (m ((c.tc : Thread nD τ).loc main_arg2)) (m ((c.tc : Thread nD τ).loc main_arg3)) := by
  sl_kernel_rfl

end

/-- Rows of a table looked up at a rectangle of row numbers: entry (q, k, h) is the table's at the row number standing at
    (q, k), column h. -/
theorem gather_rows {α : Type} (x : S32x16.Idx → α) (idx : IVec S128x256x1 32) (q : Fin 128) (k : Fin 256) (h : Fin 16) (b : Fin 32)
    (hb : idx (ix3 q k 0) = BitVec.ofNat 32 b.val) :
    Host.gather gather_S32x16_S128x256x1_S128x256x16_2_0_n_n_0_2_116 x idx (ix3 q k h) = x (ix2 b h) := by
  let d := gather_S32x16_S128x256x1_S128x256x16_2_0_n_n_0_2_116
  unfold Host.gather
  refine congrArg x (funext fun a => Fin.ext ?_)
  match a with
  | ⟨0, _⟩ =>
    have hm : (0 : Fin 2) ∈ d.startIndexMap := List.mem_singleton.mpr rfl
    show d.start (ix3 q k h) idx 0 + d.batchCoord (ix3 q k h) 0 + d.offCoord (ix3 q k h) 0 = b.val
    rw [d.batchCoord_eq_zero _ _ List.not_mem_nil,
      d.offCoord_eq_zero _ _ (fun e => ((d.mem_sKept _).mp e).1 (List.mem_singleton.mpr rfl))]
    simp only [Nat.add_zero]
    unfold GatherDims.start
    rw [dif_pos hm]
    have hsi : d.siIdx (ix3 q k h) ⟨List.idxOf (0 : Fin 2) d.startIndexMap, List.idxOf_lt_length_iff.2 hm⟩ = ix3 q k 0 := by
      funext b'; refine Fin.ext ?_
      match b' with
      | ⟨0, _⟩ => rfl
      | ⟨1, _⟩ => rfl
      | ⟨2, _⟩ => rfl
    rw [hsi, hb]
    have : ∀ b : Fin 32, min (BitVec.ofNat 32 b.val).toInt.toNat 31 = b.val := by decide
    exact this b
  | ⟨1, _⟩ =>
    have hm : (1 : Fin 2) ∉ d.startIndexMap := by decide
    show d.start (ix3 q k h) idx 1 + d.batchCoord (ix3 q k h) 1 + d.offCoord (ix3 q k h) 1 = h.val
    rw [d.batchCoord_eq_zero _ _ List.not_mem_nil]
    unfold GatherDims.start
    rw [dif_neg hm]
    have hk : (1 : Fin 2) ∈ d.sKept := (d.mem_sKept _).mpr ⟨fun e => absurd (List.mem_singleton.mp e) (by decide), List.not_mem_nil⟩
    unfold GatherDims.offCoord
    rw [dif_pos hk]
    simp only [Nat.zero_add]
    have hx : ∀ X : Fin 3, X = 2 → ((ix3 q k h : S128x256x16.Idx) X).val = h.val := fun X e => by subst e; rfl
    exact hx _ (List.mem_singleton.mp (List.getElem_mem (l := d.offsetDims) _))

theorem dist_apply (q : Fin 128) (k : Fin 256) :
    distR (ix2 q k) = IntOp.subi (IntOp.addi (BitVec.ofNat 32 q.val) 128#32) (BitVec.ofNat 32 k.val) := by
  pointwise [distR]

theorem near_apply (q : Fin 128) (k : Fin 256) : nearR (ix2 q k) = BitVec.ofNat 32 (q.val + 128 - k.val) := by
  pointwise [nearR]
  rw [dist_apply]
  revert q k
  decide +kernel

/-- The bucket of a distance below 256. -/
def bucket (d : Fin 256) : Fin 32 := ⟨(lit0 d).toNat, by revert d; decide +kernel⟩

theorem bucket_apply (q : Fin 128) (k : Fin 256) :
    bucketR (ix2 q k) = BitVec.ofNat 32 (bucket ⟨q.val + 128 - k.val, by omega⟩).val := by
  have hd : q.val + 128 - k.val < 256 := by omega
  unfold bucketR
  refine (ValueIdx.gather_take_apply (N := 256) (R := 128) (C := 256) (by decide) _ _ _ _).trans ?_
  have e : (broadcastInDim S128x256x1 ![0, 1] bcast_S128x256_S128x256x1_0_1 (select (cmpi .slt nearR (broadcastInDim S128x256 ![]
      bcast_S_S128x256 (constantI S_ 32 0#32))) (addi nearR (broadcastInDim S128x256 ![] bcast_S_S128x256 (constantI S_ 32 256#32)))
      nearR)) (ix3 q k 0) = BitVec.ofNat 32 (q.val + 128 - k.val) := by
    pointwise []
    rw [near_apply]
    have : ∀ d : Fin 256, Scalar.select (IntOp.cmpi .slt (BitVec.ofNat 32 d.val) 0#32) (IntOp.addi (BitVec.ofNat 32 d.val) 256#32) (BitVec.ofNat 32 d.val)
        = BitVec.ofNat 32 d.val := by decide +kernel
    exact this ⟨_, hd⟩
  have e' : ∀ i : S128x256x1.Idx, i = ix3 q k 0 → (broadcastInDim S128x256x1 ![0, 1] bcast_S128x256_S128x256x1_0_1 (select (cmpi .slt nearR (broadcastInDim S128x256 ![]
      bcast_S_S128x256 (constantI S_ 32 0#32))) (addi nearR (broadcastInDim S128x256 ![] bcast_S_S128x256 (constantI S_ 32 256#32)))
      nearR)) i = BitVec.ofNat 32 (q.val + 128 - k.val) := fun i h => h ▸ e
  have hl : ∀ d : Fin 256, lit0 d = BitVec.ofNat 32 (bucket d).val := by decide +kernel
  have hn : ∀ d : Fin 256, min (BitVec.ofNat 32 d.val).toInt.toNat (256 - 1) = d.val := by decide +kernel
  have hi : ∀ (i : S256.Idx) (d : Fin 256), (i 0).val = d.val → lit0 (S256.rowMajor i) = BitVec.ofNat 32 (bucket d).val := by
    intro i d h
    rw [show S256.rowMajor i = d from Fin.ext ((Shape.rowMajor_val_one i).trans h)]
    exact hl d
  refine hi _ ⟨_, hd⟩ ?_
  show min _ _ = _
  rw [e' _ (by funext a; match a with | ⟨0, _⟩ => rfl | ⟨1, _⟩ => rfl | ⟨2, _⟩ => rfl)]
  exact hn ⟨_, hd⟩

/-- Whether the key at column `k` of the window of row block `n` is seen by its query row `q`. -/
abbrev seen (n : Fin 32) (q : Fin 128) (k : Fin 256) : Prop := q.val < k.val ∧ k.val ≤ q.val + 128 ∧ 128 ≤ n.val * 128 + k.val

theorem valid_apply (n : Fin 32) (q : Fin 128) (k : Fin 256) : validR (ix3 n q k) = if seen n q k then 1#1 else 0#1 := by
  pointwise [validR]
  rw [dist_apply]
  have h1 : ∀ (q : Fin 128) (k : Fin 256), IntOp.andi
      (IntOp.cmpi .sge (IntOp.subi (IntOp.addi (BitVec.ofNat 32 q.val) 128#32) (BitVec.ofNat 32 k.val)) 0#32)
      (IntOp.cmpi .slt (IntOp.subi (IntOp.addi (BitVec.ofNat 32 q.val) 128#32) (BitVec.ofNat 32 k.val)) 128#32)
        = if q.val < k.val ∧ k.val ≤ q.val + 128 then 1#1 else 0#1 := by decide +kernel
  have h2 : ∀ (n : Fin 32) (k : Fin 256), IntOp.cmpi .sge
      (IntOp.subi (IntOp.addi (IntOp.muli (BitVec.ofNat 32 n.val) 128#32) (BitVec.ofNat 32 k.val)) 128#32) 0#32
        = if 128 ≤ n.val * 128 + k.val then 1#1 else 0#1 := by decide +kernel
  rw [h1, h2]
  by_cases a : q.val < k.val ∧ k.val ≤ q.val + 128 <;> by_cases b : 128 ≤ n.val * 128 + k.val
  · rw [if_pos a, if_pos b, if_pos ⟨a.1, a.2, b⟩]; rfl
  · rw [if_pos a, if_neg b, if_neg fun h => b h.2.2]; rfl
  · rw [if_neg a, if_pos b, if_neg fun h => a ⟨h.1, h.2.1⟩]; rfl
  · rw [if_neg a, if_neg b, if_neg fun h => b h.2.2]; rfl

variable (x0 : FVec Ideal S16 .f32) (x1 : FVec Ideal S32x16 .f32) (x2 : FVec Ideal S16384x1024 .bf16) (x3 : FVec Ideal S16384x512 .bf16)

theorem bias_apply (q : Fin 128) (k : Fin 256) (h : Fin 16) :
    biasR (F := Ideal) x1 (ix3 q k h) = x1 (ix2 (bucket ⟨q.val + 128 - k.val, by omega⟩) h) := by
  unfold biasR
  refine gather_rows x1 _ q k h _ ?_
  pointwise []
  rw [bucket_apply]
  have : ∀ d : Fin 32, Scalar.select (IntOp.cmpi .slt (BitVec.ofNat 32 d.val) 0#32) (IntOp.addi (BitVec.ofNat 32 d.val) 32#32) (BitVec.ofNat 32 d.val)
      = BitVec.ofNat 32 d.val := by decide +kernel
  exact this _

theorem window_apply (h : FVec Ideal S16384x256 .bf16) (b : Fin 4) (n : Fin 32) (k : Fin 256) (hh : Fin 4) (d : Fin 64)
    (hk : 128 ≤ n.val * 128 + k.val) :
    windowR (F := Ideal) h (ix5 b n k hh d) = h (ix2 ⟨b.val * 4096 + n.val * 128 + k.val - 128, by omega⟩ ⟨hh.val * 64 + d.val, by omega⟩) := by
  pointwise [windowR, padR]
  have at_ : ∀ (a a' : Nat) (ha : a < 16384) (ha' : a' < 16384) (y : Fin 256), a = a' → h (ix2 ⟨a, ha⟩ y) = h (ix2 ⟨a', ha'⟩ y) := by
    intro a a' ha ha' y e; subst e; rfl
  split_ifs <;> first
    | omega
    | exact at_ _ _ _ _ _ (by omega)

theorem query_apply (b : Fin 4) (n : Fin 32) (r : Fin 128) (hh g : Fin 4) (d : Fin 64) :
    queryR (F := Ideal) x2 (ix6 b n r hh g d)
      = x2 (ix2 ⟨b.val * 4096 + n.val * 128 + r.val, by omega⟩ ⟨hh.val / 2 * 512 + g.val * 128 + hh.val % 2 * 64 + d.val, by omega⟩)
        * (Ideal.log (Ideal.ofBits FTy.f32 0x40000000#32) * Ideal.ofBits FTy.f32 0x41000000#32) := by
  pointwise [queryR]

end Cert.ReferenceIdeal.Stages

end
-- ==== Proof.Attn.RefSoftmax.lean ====
/- The attention's reference at one element: the softmax of one head over the 256 keys of its window. -/
module

public import proofs.«01_k».proof.Proof.Gen.ReferenceIdeal.Run
public import proofs.«01_k».proof.Proof.Attn.Softmax
public import proofs.«01_k».proof.Proof.Attn.Reference
public import Idealize.ShloMosaic.Lib.Pointwise
public import Idealize.ShloMosaic.Lib.ValueIdxCore
public import Idealize.ShloMosaic.Lib.Claim

@[expose] public section

set_option maxRecDepth 16384

noncomputable section

namespace Cert.ReferenceIdeal.Stages

open Cert.ReferenceIdeal Cert.ReferenceIdeal.Gen Cert.ReferenceIdeal.Value
open Idealize.ShloMosaic Idealize.ShloMosaic.TcCoe Idealize.ShloMosaic.Tactic Idealize.SL.Sem

variable (x0 : FVec Ideal S16 .f32) (x1 : FVec Ideal S32x16 .f32) (x2 : FVec Ideal S16384x1024 .bf16) (x3 : FVec Ideal S16384x512 .bf16)

/-- A score of the reference, unscaled: queries against keys. -/
def rawR (b : Fin 4) (n : Fin 32) (hh g : Fin 4) (r : Fin 128) (k : Fin 256) : EReal :=
  ∑ d : Fin 64, keyR (F := Ideal) x3 (ix5 b n k hh d) * queryR (F := Ideal) x2 (ix6 b n r hh g d)

/-- A score of the reference. -/
def scoreE (b : Fin 4) (n : Fin 32) (hh g : Fin 4) (r : Fin 128) (k : Fin 256) : EReal :=
  if seen n r k then rawR x2 x3 b n hh g r k * Ideal.ofBits FTy.f32 0x3E000000#32
    + x1 (ix2 (bucket ⟨r.val + 128 - k.val, by omega⟩) ⟨hh.val * 4 + g.val, by omega⟩)
  else ⊥

theorem ofBits_neg_inf : Ideal.ofBits FTy.f32 0xFF800000#32 = ⊥ := by
  simp [Ideal.ofBits, Ideal.ieee]

theorem dot_apply (b : Fin 4) (n : Fin 32) (hh : Fin 4) (k : Fin 256) (r : Fin 128) (g : Fin 4) :
    dotR (F := Ideal) x2 x3 (ix6 b n hh k r g) = rawR x2 x3 b n hh g r k := by
  pointwise [dotR]
  rfl

theorem score_apply (b : Fin 4) (n : Fin 32) (hh g : Fin 4) (r : Fin 128) (k : Fin 256) :
    scoreR (F := Ideal) x1 x2 x3 (ix6 b n hh g r k) = scoreE x1 x2 x3 b n hh g r k := by
  pointwise [scoreR]
  rw [valid_apply, dot_apply, bias_apply, scoreE]
  split_ifs with h
  · rfl
  · exact ofBits_neg_inf

theorem reduces5 : S4x32x4x4x128x256.Reduces [5] S4x32x4x4x128 := by decide

theorem lift_eq (b : Fin 4) (n : Fin 32) (hh g : Fin 4) (r : Fin 128) (k : Fin 256) :
    reduces5.lift (ix5 b n hh g r) k = ix6 b n hh g r k := by
  funext a
  match a with
  | ⟨0, _⟩ => rfl
  | ⟨1, _⟩ => rfl
  | ⟨2, _⟩ => rfl
  | ⟨3, _⟩ => rfl
  | ⟨4, _⟩ => rfl
  | ⟨5, _⟩ => rfl

theorem sink_apply (b : Fin 4) (n : Fin 32) (hh g : Fin 4) (r : Fin 128) :
    (broadcastInDim S4x32x4x4x128 ![0, 1, 2, 3, 4] bcast_S1x1x4x4x1_S4x32x4x4x128_0_1_2_3_4 (broadcastInDim S1x1x4x4x1 ![2, 3, 4]
      bcast_S4x4x1_S1x1x4x4x1_2_3_4 (shapeCast _ x0 shapeCasts_S16_S4x4x1))) (ix5 b n hh g r) = x0 (ix1 ⟨hh.val * 4 + g.val, by omega⟩) := by
  pointwise []

/-- A maximum over the last axis, at one place. -/
theorem fold_apply (s : FVec Ideal S4x32x4x4x128x256 .f32) (i0 : S_.Idx → Ideal .f32) (b : Fin 4) (n : Fin 32) (hh g : Fin 4) (r : Fin 128) :
    Host.reduce (FloatOps.maximumf (F := Ideal) (φ := .f32)) s i0 reducesTo_S4x32x4x4x128x256_S4x32x4x4x128_d5 h_S_ (ix5 b n hh g r)
      = Finset.univ.fold (FloatOps.maximumf (F := Ideal) (φ := .f32)) (i0 (Shape.Idx.first h_S_)) fun k : Fin 256 => s (ix6 b n hh g r k) :=
  (Host.reduce_eq_fold_single _ s i0 _ reduces5 h_S_ _).trans
    (congrArg (fun f => Finset.univ.fold (FloatOps.maximumf (F := Ideal) (φ := .f32)) (i0 (Shape.Idx.first h_S_)) f)
      (funext fun k : Fin 256 => congrArg s (lift_eq b n hh g r k)))

/-- A sum over the last axis, at one place. -/
theorem sum_apply (s : FVec Ideal S4x32x4x4x128x256 .f32) (z : Ideal .f32) (b : Fin 4) (n : Fin 32) (hh g : Fin 4) (r : Fin 128) :
    Ideal.hostReduceAdd reducesTo_S4x32x4x4x128x256_S4x32x4x4x128_d5 s z (ix5 b n hh g r)
      = z + ∑ k : Fin 256, s (ix6 b n hh g r k) :=
  (Ideal.hostReduceAdd_single _ reduces5 s z _).trans
    (congrArg (fun t : EReal => z + t) (Finset.sum_congr rfl fun k _ => congrArg s (lift_eq b n hh g r k)))

theorem fold_max (f : Fin 256 → EReal) :
    Finset.univ.fold (FloatOps.maximumf (F := Ideal) (φ := .f32)) ((constant (F := Ideal) S_ .f32 0xFF800000#32) (Shape.Idx.first h_S_)) f
      = Finset.univ.fold max ⊥ f := by
  have e : (constant (F := Ideal) S_ .f32 0xFF800000#32) (Shape.Idx.first h_S_) = (⊥ : EReal) := ofBits_neg_inf
  rw [e]
  rfl

theorem max_split (a b : FVec Ideal S4x32x4x4x128 .f32) (i : S4x32x4x4x128.Idx) : maximumf a b i = max (a i : EReal) (b i) := rfl

theorem max_apply (b : Fin 4) (n : Fin 32) (hh g : Fin 4) (r : Fin 128) :
    maxR (F := Ideal) x0 x1 x2 x3 (ix5 b n hh g r)
      = Cert.Attention.top (fun k => scoreE x1 x2 x3 b n hh g r k) (x0 (ix1 ⟨hh.val * 4 + g.val, by omega⟩)) := by
  have e : (fun k : Fin 256 => scoreR (F := Ideal) x1 x2 x3 (ix6 b n hh g r k)) = fun k => scoreE x1 x2 x3 b n hh g r k :=
    funext fun k => score_apply x1 x2 x3 b n hh g r k
  unfold maxR
  generalize scoreR (F := Ideal) x1 x2 x3 = s at e ⊢
  rw [max_split, fold_apply, sink_apply, e, fold_max]
  rfl

theorem exp_apply (b : Fin 4) (n : Fin 32) (hh g : Fin 4) (r : Fin 128) (k : Fin 256) :
    expR (F := Ideal) x0 x1 x2 x3 (ix6 b n hh g r k) = Ideal.exp (scoreE x1 x2 x3 b n hh g r k
      - Cert.Attention.top (fun k => scoreE x1 x2 x3 b n hh g r k) (x0 (ix1 ⟨hh.val * 4 + g.val, by omega⟩))) := by
  pointwise [expR]
  rw [score_apply, max_apply]

theorem prob_apply (b : Fin 4) (n : Fin 32) (hh g : Fin 4) (r : Fin 128) (k : Fin 256) :
    probR (F := Ideal) x0 x1 x2 x3 (ix6 b n hh g r k)
      = Ideal.div (expR (F := Ideal) x0 x1 x2 x3 (ix6 b n hh g r k)) ((∑ k, expR (F := Ideal) x0 x1 x2 x3 (ix6 b n hh g r k))
        + Ideal.exp (x0 (ix1 ⟨hh.val * 4 + g.val, by omega⟩) - maxR (F := Ideal) x0 x1 x2 x3 (ix5 b n hh g r))) := by
  pointwise [probR]
  rw [sum_apply, zero_add]

theorem ctx_apply (b : Fin 4) (n : Fin 32) (hh : Fin 4) (d : Fin 64) (g : Fin 4) (r : Fin 128) :
    ctxR (F := Ideal) x0 x1 x2 x3 (ix6 b n hh d g r)
      = Cert.Attention.attend (fun k => scoreE x1 x2 x3 b n hh g r k) (fun k => valueR (F := Ideal) x3 (ix5 b n k hh d))
        (x0 (ix1 ⟨hh.val * 4 + g.val, by omega⟩)) := by
  pointwise [ctxR]
  simp only [prob_apply, exp_apply, max_apply]
  rfl

theorem result_apply (r : Fin 16384) (k : Fin 1024) :
    resultR (F := Ideal) x0 x1 x2 x3 (ix2 r k)
      = ctxR (F := Ideal) x0 x1 x2 x3 (ix6 ⟨r.val / 4096, by omega⟩ ⟨r.val / 128 % 32, by omega⟩ ⟨k.val / 512 * 2 + k.val / 64 % 2, by omega⟩
          ⟨k.val % 64, by omega⟩ ⟨k.val / 128 % 4, by omega⟩ ⟨r.val % 128, by omega⟩) := by
  pointwise [resultR]

end Cert.ReferenceIdeal.Stages

end
-- ==== Proof.Attn.Finite.lean ====
/- What the attention's precondition says of its arguments. -/
module

public import proofs.«01_k».proof.Defs
public import Idealize.ShloMosaic.Lib.Pointwise
public import Idealize.ShloMosaic.Lib.ReduceAll
public import Idealize.ShloMosaic.Lib.Claim

@[expose] public section

noncomputable section

namespace Cert.Attention

open Idealize.ShloMosaic Idealize.ShloMosaic.TcCoe Idealize.ShloMosaic.Tactic

/-- The predicate's side conditions. -/
theorem preFacts : Cert.Pre_finite.Facts where
  bcast_S_S16 := by decide
  reducesTo_S16_S_d0 := by decide
  h_S_ := by decide
  bcast_S_S32x16 := by decide
  reducesTo_S32x16_S_d0_1 := by decide
  bitsLt_bf16_f32 := by decide
  bcast_S_S16384x1024 := by decide
  reducesTo_S16384x1024_S_d0_1 := by decide
  slices_S16384x512_S16384x256_0_0 := by decide
  bcast_S_S16384x256 := by decide
  reducesTo_S16384x256_S_d0_1 := by decide

theorem ofBits_inf : Ideal.ofBits FTy.f32 0x7F800000#32 = ⊤ := by
  simp [Ideal.ofBits, Ideal.ieee]

theorem lt_of_cmp (x : EReal) (h : Ideal.cmp .olt x (Ideal.ofBits FTy.f32 0x7F800000#32) = 1#1) : x < ⊤ := by
  rw [ofBits_inf] at h
  by_contra hx
  simp [Ideal.cmp, hx] at h

theorem real_of_abs (x : EReal) (h : max x (-x) < ⊤) : ∃ z : ℝ, x = (z : EReal) := by
  have h1 : x ≠ ⊤ := (lt_of_le_of_lt (le_max_left _ _) h).ne
  have h2 : x ≠ ⊥ := fun e => by subst e; simp at h
  exact ⟨x.toReal, (EReal.coe_toReal h1 h2).symm⟩

/-- Where the predicate holds no sink is +∞, and the biases, queries and keys are real numbers. -/
theorem real_of_finite [hF : Cert.Pre_finite.Facts] (x0 : FVec Ideal Cert.Pre_finite.S16 .f32) (x1 : FVec Ideal Cert.Pre_finite.S32x16 .f32)
    (x2 : FVec Ideal Cert.Pre_finite.S16384x1024 .bf16) (x3 : FVec Ideal Cert.Pre_finite.S16384x512 .bf16)
    (h : Cert.Pre_finite.fn (F := Ideal) x0 x1 x2 x3 = fun _ => 1#1) :
    (∀ i, (x0 i : EReal) < ⊤) ∧ (∀ i, ∃ z : ℝ, (x1 i : EReal) = z) ∧ (∀ i, ∃ z : ℝ, (x2 i : EReal) = z)
      ∧ ∀ (r : Fin 16384) (k : Fin 256), ∃ z : ℝ, (x3 (ix2 r ⟨k.val, by omega⟩) : EReal) = z := by
  have split : ∀ a b : BitVec 1, IntOp.andi a b = 1#1 → a = 1#1 ∧ b = 1#1 := by decide
  have e := congrFun h (Shape.Idx.first hF.h_S_)
  dsimp only [Cert.Pre_finite.fn, Cert.Pre_finite.fn_part1] at e
  obtain ⟨e, e3⟩ := split _ _ e
  obtain ⟨e, e2⟩ := split _ _ e
  obtain ⟨e0, e1⟩ := split _ _ e
  haveI : Subsingleton Cert.Pre_finite.S_.Idx := ⟨fun a b => funext fun k => k.elim0⟩
  refine ⟨fun i => lt_of_cmp _ (Host.reduce_andi_all _ _ _ _ _ e0 i), fun i => real_of_abs _ (lt_of_cmp _ (Host.reduce_andi_all _ _ _ _ _ e1 i)),
    fun i => real_of_abs _ (lt_of_cmp _ (Host.reduce_andi_all _ _ _ _ _ e2 i)), fun r k => ?_⟩
  have h3 := real_of_abs _ (lt_of_cmp _ (Host.reduce_andi_all _ _ _ _ _ e3 (ix2 r k)))
  obtain ⟨z, hz⟩ := h3
  refine ⟨z, Eq.trans ?_ hz⟩
  show _ = extractStridedSlice Cert.Pre_finite.S16384x256 ![0, 0] x3 hF.slices_S16384x512_S16384x256_0_0 (ix2 r k)
  pointwise []

end Cert.Attention

end
-- ==== Proof.Attn.Value.lean ====
/- The attention kernel's result is the reference's, element by element and as an array. -/
module

public import proofs.«01_k».proof.Proof.Attn.Elements
public import proofs.«01_k».proof.Proof.Attn.RefSoftmax
public import proofs.«01_k».proof.Proof.Attn.Finite

@[expose] public section

set_option maxRecDepth 16384

noncomputable section

namespace Cert.KernelIdeal.Attn

open Cert.KernelIdeal.Gen
open Idealize.ShloMosaic Idealize.ShloMosaic.TcCoe Idealize.ShloMosaic.Tactic Idealize.SL.Sem
open Cert.ReferenceIdeal.Stages (seen bucket)

/-- The kernel's bucket of a distance is the reference's. -/
theorem bucket_near : ∀ d : Fin 128, bucket ⟨d.val, by omega⟩ = near d := by decide +kernel

theorem ofBits_eight : Ideal.ofBits FTy.f32 0x41000000#32 = ((8 : ℝ) : EReal) := by
  simp [Ideal.ofBits, Ideal.ieee, -EReal.coe_mul]; norm_num

theorem ofBits_eighth : Ideal.ofBits FTy.f32 0x3E000000#32 = ((1 / 8 : ℝ) : EReal) := by
  simp [Ideal.ofBits, Ideal.ieee, -EReal.coe_mul]; norm_num

theorem log_two : Ideal.log (Ideal.ofBits FTy.f32 0x40000000#32) = ((Real.log 2 : ℝ) : EReal) := by
  rw [ofBits_two, Ideal.log_coe, if_neg (by norm_num)]

/-- A real score and its bias: the reference's is log 2 times the kernel's. -/
theorem scale (a b : Fin 64 → EReal) (β : EReal) (ha : ∀ x, ∃ z : ℝ, a x = z) (hb : ∀ x, ∃ z : ℝ, b x = z) (hβ : ∃ z : ℝ, β = z) :
    ∃ z : ℝ, (∑ x, a x * b x) + β * perLog = (z : EReal)
      ∧ (∑ x, b x * (a x * (Ideal.log (Ideal.ofBits FTy.f32 0x40000000#32) * Ideal.ofBits FTy.f32 0x41000000#32))) * Ideal.ofBits FTy.f32 0x3E000000#32 + β
        = ((∑ x, a x * b x) + β * perLog) * (Real.log 2 : EReal) := by
  choose a' ha using ha
  choose b' hb using hb
  obtain ⟨β', rfl⟩ := hβ
  obtain rfl : a = fun x => (a' x : EReal) := funext ha
  obtain rfl : b = fun x => (b' x : EReal) := funext hb
  have hl : Real.log 2 ≠ 0 := (Real.log_pos (by norm_num)).ne'
  have e : (∑ x, (a' x : EReal) * (b' x : EReal)) + (β' : EReal) * perLog = ((∑ x, a' x * b' x + β' * (Real.log 2)⁻¹ : ℝ) : EReal) := by
    rw [perLog_eq, EReal.coe_add, EReal.coe_mul, ← Cert.Attention.coe_sum]
    simp only [EReal.coe_mul]
  refine ⟨_, e, ?_⟩
  rw [e, log_two, ofBits_eight, ofBits_eighth]
  have e2 : ∀ x, (b' x : EReal) * ((a' x : EReal) * (((Real.log 2 : ℝ) : EReal) * ((8 : ℝ) : EReal))) = ((a' x * b' x * (Real.log 2 * 8) : ℝ) : EReal) := by
    intro x
    rw [← EReal.coe_mul, ← EReal.coe_mul, ← EReal.coe_mul]
    congr 1; ring
  simp only [e2]
  rw [Cert.Attention.coe_sum, ← EReal.coe_mul, ← EReal.coe_add, ← EReal.coe_mul, ← Finset.sum_mul]
  congr 1
  field_simp

variable (m : (ℓ : Loc nD τ sig) → Buf (Elt Ideal) ℓ) (c : Dev nD)

/-- What the precondition says of the arguments. -/
abbrev Reals : Prop :=
  (∀ i, A0 m c i < ⊤) ∧ (∀ i, ∃ z : ℝ, A1 m c i = z) ∧ (∀ i, ∃ z : ℝ, A2 m c i = z)
    ∧ ∀ (r : Fin 16384) (k : Fin 256), ∃ z : ℝ, A3 m c (ix2 r ⟨k.val, by omega⟩) = z

/-- The sequence of a grid point. -/
abbrev seq (t : Fin cfg0.N) : Fin 4 := ⟨(num t).val / 8, by have := (num t).isLt; omega⟩
/-- The number, within its sequence, of a row block of a grid point. -/
abbrev part (t : Fin cfg0.N) (rb : Fin 4) : Fin 32 := ⟨(num t).val % 8 * 4 + rb.val, by omega⟩
/-- The key head of a lane half. -/
abbrev keyHead (o g : Fin 2) : Fin 4 := ⟨2 * o.val + g.val, by omega⟩

/-- The keys and values a row block sees, where they exist. -/
theorem kv_apply (t : Fin cfg0.N) (rb : Fin 4) (k : Fin 256) (q : Fin 512) (hk : 128 ≤ (part t rb).val * 128 + k.val) :
    (kvTile (F := Ideal) (iblk m c 2 t) (iblk m c 3 t) rb (ix2 k q) : EReal)
      = A3 m c (ix2 ⟨(seq t).val * 4096 + (part t rb).val * 128 + k.val - 128, by have := (seq t).isLt; have := (part t rb).isLt; omega⟩ q) := by
  have at_ : ∀ (a a' : Nat) (ha : a < 16384) (ha' : a' < 16384), a = a' → A3 m c (ix2 ⟨a, ha⟩ q) = A3 m c (ix2 ⟨a', ha'⟩ q) := by
    intro a a' ha ha' e; subst e; rfl
  have hk' : 128 ≤ ((num t).val % 8 * 4 + rb.val) * 128 + k.val := hk
  have goal' : ∀ a, a < 16384 → a = 512 * (num t).val + 128 * rb.val + k.val - 128 →
      a = (num t).val / 8 * 4096 + ((num t).val % 8 * 4 + rb.val) * 128 + k.val - 128 := by intro a h1 h2; omega
  unfold kvTile
  by_cases h : 128 * rb.val + k.val < 128
  · have hn : 0 < t.val := by
      show 0 < (num t).val
      omega
    rw [dif_pos (show 128 * rb.val + ((ix2 k q : S256x512.Idx) 0).val < 128 from h)]
    refine (blk2 m c t ⟨k.val, by omega⟩ q hn).trans (at_ _ _ _ _ (goal' _ (by have := (num t).isLt; omega) ?_))
    show 512 * (num t).val + k.val - 128 = _
    omega
  · rw [dif_neg (show ¬ 128 * rb.val + ((ix2 k q : S256x512.Idx) 0).val < 128 from h)]
    refine (blk3 m c t ⟨128 * rb.val + k.val - 128, by omega⟩ q).trans (at_ _ _ _ _ (goal' _ (by have := (num t).isLt; omega) ?_))
    show 512 * (num t).val + (128 * rb.val + k.val - 128) = _
    omega

/-- The correction the kernel adds: the scaled bias where a query sees a key, −∞ elsewhere. -/
theorem bias_apply' (t : Fin cfg0.N) (rb : Fin 4) (o : Fin 2) (j : Fin 8) (r : Fin 128) (k : Fin 256) :
    (biasTile (F := Ideal) (table m c) (copyOf (grid0.coords t) rb) o (ix4 0 0 ⟨128 * j.val + r.val, by omega⟩ k) : EReal)
      = if seen (part t rb) r k then A1 m c (ix2 (bucket ⟨r.val + 128 - k.val, by omega⟩) ⟨8 * o.val + j.val, by omega⟩) * perLog else ⊥ := by
  have e : (biasTile (F := Ideal) (table m c) (copyOf (grid0.coords t) rb) o (ix4 0 0 ⟨128 * j.val + r.val, by omega⟩ k) : EReal)
      = tableOf (F := Ideal) (iblk m c 4 ⟨0, by decide⟩) (ix4 (copyOf (grid0.coords t) rb) o ⟨128 * j.val + r.val, by omega⟩ k) := rfl
  rw [e, table_apply, blk4, rows_apply]
  have hc := copy_eq t rb
  have hn : t.val = (num t).val := rfl
  by_cases hs : seen (part t rb) r k
  · have hs' : r.val < k.val ∧ k.val ≤ r.val + 128 ∧ 128 ≤ ((num t).val % 8 * 4 + rb.val) * 128 + k.val := hs
    rw [if_pos hs, if_pos, dif_pos]
    · have hb := bucket_near ⟨r.val + 128 - k.val, by omega⟩
      have : (⟨128 - (k.val + 256 - r.val) % 256, by omega⟩ : Fin 128) = ⟨r.val + 128 - k.val, by omega⟩ := Fin.ext (by show 128 - (k.val + 256 - r.val) % 256 = r.val + 128 - k.val; omega)
      rw [this, ← hb]
    · show 0 < (k.val + 256 - r.val) % 256 ∧ (k.val + 256 - r.val) % 256 ≤ 128
      omega
    · rw [hc]
      split_ifs with h
      · right; omega
      · left; rfl
  · have hs' : ¬ (r.val < k.val ∧ k.val ≤ r.val + 128 ∧ 128 ≤ ((num t).val % 8 * 4 + rb.val) * 128 + k.val) := hs
    rw [if_neg hs]
    split_ifs with h1 h2
    · exfalso
      have h2' : 0 < (k.val + 256 - r.val) % 256 ∧ (k.val + 256 - r.val) % 256 ≤ 128 := h2
      rw [hc] at h1
      by_cases h : rb.val = 0 ∧ t.val % 8 = 0
      · rw [if_pos h] at h1
        omega
      · omega
    · rfl
    · rfl

/-- One element of a tile is the reference's element. -/
theorem element (hR : Reals m c) (t : Fin cfg0.N) (rb : Fin 4) (o : Fin 2) (n : Fin 4) (g : Fin 2) (r : Fin 128) (d : Fin 64) :
    (tileT (F := Ideal) o n (kvTile (iblk m c 2 t) (iblk m c 3 t) rb) (fun k => qTile (iblk m c 1 t) rb ⟨4 * o.val + k.val, by omega⟩)
        (biasTile (table m c) (copyOf (grid0.coords t) rb) o) (fun j => iblk m c 0 t (ix1 ⟨8 * o.val + j.val, by omega⟩))
        (ix2 r ⟨64 * g.val + d.val, by omega⟩) : EReal)
      = Cert.ReferenceIdeal.Stages.ctxR (F := Ideal) (A0 m c) (A1 m c) (A2 m c) (A3 m c)
          (ix6 (seq t) (part t rb) (keyHead o g) d n r) := by
  obtain ⟨h0, h1, h2, h3⟩ := hR
  rw [tileT_apply, Cert.ReferenceIdeal.Stages.ctx_apply]
  have hp : (part t rb).val = (num t).val % 8 * 4 + rb.val := rfl
  have hq : (seq t).val = (num t).val / 8 := rfl
  have hN := (num t).isLt
  have key : ∀ (k : Fin 256), 128 ≤ (part t rb).val * 128 + k.val → ∀ x : Fin 64,
      (kvTile (F := Ideal) (iblk m c 2 t) (iblk m c 3 t) rb (ix2 k ⟨128 * o.val + (64 * g.val + x.val), by omega⟩) : EReal)
        = Cert.ReferenceIdeal.Stages.keyR (F := Ideal) (A3 m c) (ix5 (seq t) (part t rb) k (keyHead o g) x) := by
    intro k hk x
    rw [kv_apply m c t rb k _ hk]
    unfold Cert.ReferenceIdeal.Stages.keyR
    rw [Cert.ReferenceIdeal.Stages.window_apply _ _ _ _ _ _ hk]
    pointwise []
    exact congrArg _ (idx2_ext (n0 := 16384) (n1 := 512) (by simp) (by show 128 * o.val + (64 * g.val + x.val) = (2 * o.val + g.val) * 64 + x.val; omega))
  have value : ∀ (k : Fin 256), 128 ≤ (part t rb).val * 128 + k.val →
      (kvTile (F := Ideal) (iblk m c 2 t) (iblk m c 3 t) rb (ix2 k ⟨256 + 128 * o.val + (64 * g.val + d.val), by omega⟩) : EReal)
        = Cert.ReferenceIdeal.Stages.valueR (F := Ideal) (A3 m c) (ix5 (seq t) (part t rb) k (keyHead o g) d) := by
    intro k hk
    rw [kv_apply m c t rb k _ hk]
    unfold Cert.ReferenceIdeal.Stages.valueR
    rw [Cert.ReferenceIdeal.Stages.window_apply _ _ _ _ _ _ hk]
    pointwise []
    exact congrArg _ (idx2_ext (n0 := 16384) (n1 := 512) (by simp) (by show 256 + 128 * o.val + (64 * g.val + d.val) = 256 + ((2 * o.val + g.val) * 64 + d.val); omega))
  have query : ∀ x : Fin 64,
      (qTile (F := Ideal) (iblk m c 1 t) rb ⟨4 * o.val + n.val, by omega⟩ (ix2 r ⟨64 * g.val + x.val, by omega⟩) : EReal)
        = A2 m c (ix2 ⟨(seq t).val * 4096 + (part t rb).val * 128 + r.val, by omega⟩
            ⟨(keyHead o g).val / 2 * 512 + n.val * 128 + (keyHead o g).val % 2 * 64 + x.val, by omega⟩) := by
    intro x
    refine (blk1 m c t ⟨128 * rb.val + r.val, by omega⟩ ⟨128 * (4 * o.val + n.val) + (64 * g.val + x.val), by omega⟩).trans ?_
    refine congrArg _ (idx2_ext (n0 := 16384) (n1 := 1024) ?_ ?_)
    · show 512 * (num t).val + (128 * rb.val + r.val) = (num t).val / 8 * 4096 + ((num t).val % 8 * 4 + rb.val) * 128 + r.val
      omega
    · show 128 * (4 * o.val + n.val) + (64 * g.val + x.val) = (2 * o.val + g.val) / 2 * 512 + n.val * 128 + (2 * o.val + g.val) % 2 * 64 + x.val
      omega
  have head : (⟨8 * o.val + (slot n g).val, by omega⟩ : Fin 16) = ⟨(keyHead o g).val * 4 + n.val, by omega⟩ :=
    Fin.ext (by show 8 * o.val + (n.val + 4 * g.val) = (2 * o.val + g.val) * 4 + n.val; omega)
  have score : ∀ k : Fin 256,
      (seen (part t rb) r k ∧ ∃ z : ℝ,
        (∑ x : Fin 64, (qTile (F := Ideal) (iblk m c 1 t) rb ⟨4 * o.val + n.val, by omega⟩ (ix2 r ⟨64 * g.val + x.val, by omega⟩) : EReal)
            * kvTile (F := Ideal) (iblk m c 2 t) (iblk m c 3 t) rb (ix2 k ⟨128 * o.val + (64 * g.val + x.val), by omega⟩))
          + biasTile (F := Ideal) (table m c) (copyOf (grid0.coords t) rb) o (ix4 0 0 ⟨128 * (slot n g).val + r.val, by omega⟩ k) = (z : EReal)
        ∧ Cert.ReferenceIdeal.Stages.scoreE (A1 m c) (A2 m c) (A3 m c) (seq t) (part t rb) (keyHead o g) n r k = (z : EReal) * (Real.log 2 : EReal))
      ∨ (¬ seen (part t rb) r k
        ∧ (∑ x : Fin 64, (qTile (F := Ideal) (iblk m c 1 t) rb ⟨4 * o.val + n.val, by omega⟩ (ix2 r ⟨64 * g.val + x.val, by omega⟩) : EReal)
            * kvTile (F := Ideal) (iblk m c 2 t) (iblk m c 3 t) rb (ix2 k ⟨128 * o.val + (64 * g.val + x.val), by omega⟩))
          + biasTile (F := Ideal) (table m c) (copyOf (grid0.coords t) rb) o (ix4 0 0 ⟨128 * (slot n g).val + r.val, by omega⟩ k) = ⊥
        ∧ Cert.ReferenceIdeal.Stages.scoreE (A1 m c) (A2 m c) (A3 m c) (seq t) (part t rb) (keyHead o g) n r k = ⊥) := by
    intro k
    rw [bias_apply' m c t rb o (slot n g) r k, head]
    unfold Cert.ReferenceIdeal.Stages.scoreE Cert.ReferenceIdeal.Stages.rawR
    by_cases hs : seen (part t rb) r k
    · left
      refine ⟨hs, ?_⟩
      rw [if_pos hs, if_pos hs]
      simp only [Cert.ReferenceIdeal.Stages.query_apply, query]
      have hk : 128 ≤ (part t rb).val * 128 + k.val := hs.2.2
      have kk := key k hk
      simp only [← kk]
      obtain ⟨z, e1, e2⟩ := scale
        (fun x => A2 m c (ix2 ⟨(seq t).val * 4096 + (part t rb).val * 128 + r.val, by omega⟩
            ⟨(keyHead o g).val / 2 * 512 + n.val * 128 + (keyHead o g).val % 2 * 64 + x.val, by omega⟩))
        (fun x => kvTile (F := Ideal) (iblk m c 2 t) (iblk m c 3 t) rb (ix2 k ⟨128 * o.val + (64 * g.val + x.val), by omega⟩))
        (A1 m c (ix2 (bucket ⟨r.val + 128 - k.val, by omega⟩) ⟨(keyHead o g).val * 4 + n.val, by omega⟩))
        (fun x => h2 _) (fun x => by
          rw [kv_apply m c t rb k _ hk]
          exact h3 _ ⟨128 * o.val + (64 * g.val + x.val), by omega⟩) (h1 _)
      exact ⟨z, e1, e2.trans (by rw [e1])⟩
    · right
      rw [if_neg hs, if_neg hs]
      exact ⟨hs, EReal.add_bot _, rfl⟩
  have hl : (0 : ℝ) < Real.log 2 := Real.log_pos (by norm_num)
  have hbot : (⊥ : EReal) * (Real.log 2 : EReal) = ⊥ := EReal.bot_mul_coe_of_pos hl
  have hsink : A0 m c (ix1 ⟨(keyHead o g).val * 4 + n.val, by omega⟩) * perLog < ⊤ ∧
      A0 m c (ix1 ⟨(keyHead o g).val * 4 + n.val, by omega⟩) = A0 m c (ix1 ⟨(keyHead o g).val * 4 + n.val, by omega⟩) * perLog * (Real.log 2 : EReal) := by
    have h := h0 (ix1 ⟨(keyHead o g).val * 4 + n.val, by omega⟩)
    generalize A0 m c (ix1 ⟨(keyHead o g).val * 4 + n.val, by omega⟩) = a at h ⊢
    rw [perLog_eq]
    induction a using EReal.rec with
    | bot => rw [EReal.bot_mul_coe_of_pos (inv_pos.mpr hl), hbot]; exact ⟨bot_lt_top, rfl⟩
    | top => exact absurd h (lt_irrefl _)
    | coe a =>
      rw [← EReal.coe_mul, ← EReal.coe_mul]
      exact ⟨EReal.coe_lt_top _, by congr 1; field_simp⟩
  have hself : seen (part t rb) r ⟨r.val + 128, by omega⟩ := by
    show r.val < r.val + 128 ∧ r.val + 128 ≤ r.val + 128 ∧ 128 ≤ (part t rb).val * 128 + (r.val + 128)
    omega
  rw [blk0, head]
  refine Cert.Attention.attend2_eq_attend _ _ _ _ _ _ (fun k => ?_) hsink.2 (fun k => ?_) hsink.1 (fun k => ?_) ⟨r.val + 128, by omega⟩ ?_
  · rcases score k with ⟨-, z, e1, e2⟩ | ⟨-, e1, e2⟩
    · exact e2.trans (congrArg (· * _) e1.symm)
    · exact e2.trans (hbot.symm.trans (congrArg (· * _) e1.symm))
  · rcases score k with ⟨-, z, e1, e2⟩ | ⟨-, e1, e2⟩
    · exact lt_of_eq_of_lt e1 (EReal.coe_lt_top z)
    · exact lt_of_eq_of_lt e1 bot_lt_top
  · rcases score k with ⟨hs, z, e1, e2⟩ | ⟨-, e1, e2⟩
    · exact Or.inr (value k hs.2.2)
    · exact Or.inl e1
  · rcases score ⟨r.val + 128, by omega⟩ with ⟨hs, z, e1, e2⟩ | ⟨hs, e1, e2⟩
    · intro e
      exact EReal.coe_ne_bot z (e1.symm.trans e)
    · exact absurd hself hs

/-- The body leaves the tiles in the result's block. -/
theorem outAt_eq (t : Fin cfg0.N) (y : S512x1024.Idx) :
    outAt m c t y = blockOf (grid0.coords t) (iblk m c 0 t) (iblk m c 1 t) (iblk m c 2 t) (iblk m c 3 t) (table m c) y := by
  unfold outAt pieces
  exact View.read_writes_apply_of_pieces VO _ _ _ (body_pieces c (grid0.coords t) _ _ _ _ _ _ _ _ _ _ _ _ _ _ _ _ _ _ _ _) y
    (body_cover c (grid0.coords t) _ _ _ _ _ _ _ _ _ _ _ _ _ _ _ _ _ _ _ _ y)

/-- One element of the result's block is the reference's. -/
theorem block_apply (hR : Reals m c) (t : Fin cfg0.N) (Y : Fin 512) (Q : Fin 1024) :
    (outAt m c t (ix2 Y Q) : EReal)
      = Cert.ReferenceIdeal.Stages.resultR (F := Ideal) (A0 m c) (A1 m c) (A2 m c) (A3 m c)
          (ix2 ⟨512 * (num t).val + Y.val, by have := (num t).isLt; omega⟩ Q) := by
  have hN := (num t).isLt
  have e := element m c hR t ⟨Y.val / 128, by omega⟩ ⟨Q.val / 512, by omega⟩ ⟨Q.val % 512 / 128, by omega⟩ ⟨Q.val / 64 % 2, by omega⟩ ⟨Y.val % 128, by omega⟩ ⟨Q.val % 64, by omega⟩
  rw [outAt_eq, Cert.ReferenceIdeal.Stages.result_apply]
  refine Eq.trans ?_ (e.trans (congrArg _ ?_))
  · refine (congrArg (tileT (F := Ideal) _ _ _ _ _ _) (idx2_ext (n0 := 128) (n1 := 128) rfl ?_))
    show Q.val % 128 = 64 * (Q.val / 64 % 2) + Q.val % 64
    omega
  · have six : ∀ {a a' : Fin 4} {b b' : Fin 32} {h h' : Fin 4} {d d' : Fin 64} {g g' : Fin 4} {r r' : Fin 128},
        a = a' → b = b' → h = h' → d = d' → g = g' → r = r' → (ix6 a b h d g r) = ix6 a' b' h' d' g' r' := by
      intros; subst_vars; rfl
    refine six (Fin.ext ?_) (Fin.ext ?_) (Fin.ext ?_) rfl (Fin.ext ?_) (Fin.ext ?_)
    · show (num t).val / 8 = (512 * (num t).val + Y.val) / 4096
      omega
    · show (num t).val % 8 * 4 + Y.val / 128 = (512 * (num t).val + Y.val) / 128 % 32
      omega
    · show 2 * (Q.val / 512) + Q.val / 64 % 2 = Q.val / 512 * 2 + Q.val / 64 % 2
      omega
    · show Q.val % 512 / 128 = Q.val / 128 % 4
      omega
    · show Y.val % 128 = (512 * (num t).val + Y.val) % 128
      omega

/-- The whole array after the run is the reference's. -/
theorem arr5 (hR : Reals m c) : (dats m 0 c).arrAt 5 cfg0.N
    = (Cert.ReferenceIdeal.Stages.resultR (F := Ideal) (A0 m c) (A1 m c) (A2 m c) (A3 m c) : S16384x1024.Idx → EReal) := by
  refine (dats m 0 c).arrAt_eq_of_covers 5 _ (by decide +kernel) fun t hf y => ?_
  blk_simp
  rw [after5]
  obtain ⟨Y, Q, rfl⟩ : ∃ (Y : Fin 512) (Q : Fin 1024), y = (ix2 Y Q : (⟨2, ![512, 1024]⟩ : Shape).Idx) := ⟨y 0, y 1, idx2_eta y⟩
  exact Eq.trans (block_apply m c hR t Y Q)
    (congrArg _ (idx2_ext (n0 := 16384) (n1 := 1024) (by blk_simp [index5]; show t.val * 512 + Y.val = 512 * t.val + Y.val; omega) (by blk_simp [index5])).symm)

/-- The run leaves the reference's array in the result, the arguments unchanged. -/
theorem run_result (ρ : Dev nD → PrngReg) (hR : ∀ c, Reals m c) :
    θ_run defs (onTc (τ := τ) (main (F := Ideal))) ⟨m, fun _ => 0, ρ⟩ fun r => ∀ c : Dev nD,
      r.2.mem ((c.tc : Thread nD τ).loc main_v18)
          = (Cert.ReferenceIdeal.Stages.resultR (F := Ideal) (A0 m c) (A1 m c) (A2 m c) (A3 m c) : S16384x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 5).trans (arr5 m c (hR c)), h.2.1 c⟩)
    (θ_run_and (run_main m ρ) (frame m ρ))

end Cert.KernelIdeal.Attn

end
-- ==== Proof.Ffn.BodyIdeal.lean ====
/- The feed-forward kernel's body at one grid point: what it stores in the result's block and in its four scratch
   buffers, as functions of its inputs' blocks and of what the scratch buffers held. -/
module

public import proofs.«01_k».proof.Proof.Gen.FfnIdeal.Skeleton
public import proofs.«01_k».proof.Proof.Gen.FfnIdeal.Frame
public import Idealize.ShloMosaic.Lib.ValueIdx
public import Idealize.ShloMosaic.Lib.WholeRead
public import Idealize.ShloMosaic.Lib.VecWindow
public import Idealize.ShloMosaic.Lib.Pipeline.ValueKit.Geometry

@[expose] public section

set_option maxRecDepth 16384

noncomputable section

namespace Cert.FfnIdeal.Run

open Cert.FfnIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The blocks of the nine inputs at a point: the rows to normalise, the rows to add to, the first norm's weights, the
    scale, the shift, the gate, the second norm's weights, and a chunk of each weight matrix. -/
structure Blk (F : FTy → Type) where
  x : S128x2048.Idx → Elt F .f32
  xr : S128x2048.Idx → Elt F .f32
  g : S1x2048.Idx → Elt F .f32
  sc : S1x1x2048.Idx → Elt F .f32
  sh : S1x1x2048.Idx → Elt F .f32
  g2 : S1x1x2048.Idx → Elt F .f32
  fg : S1x2048.Idx → Elt F .f32
  w1 : S2048x2048.Idx → Elt F .bf16
  w2 : S2048x2048.Idx → Elt F .bf16

/-- The four scratch buffers' contents: two tiles of normalised rows, two of sums. -/
structure St (F : FTy → Type) where
  h0 : S512x2048.Idx → Elt F .bf16
  h1 : S512x2048.Idx → Elt F .bf16
  a0 : S512x2048.Idx → Elt F .f32
  a1 : S512x2048.Idx → Elt F .f32

/-- The offsets of the point's 128 rows in a scratch buffer. -/
def rowOff (i : grid0.Coords) : Fin 2 → ℕ := ![128 * (i 1).val, 0]

theorem rowOff_inb : ∀ (i : grid0.Coords) (a : Fin 2), rowOff i a + S128x2048.size a ≤ S512x2048.size a := fun i a => by
  have h : (i 1).val < 4 := (i 1).isLt
  match a with
  | ⟨0, _⟩ => show 128 * (i 1).val + 128 ≤ 512; omega
  | ⟨1, _⟩ => show 0 + 2048 ≤ 2048; omega

/-- A buffer with the point's 128 rows replaced. -/
def putRows {α : Type} (i : grid0.Coords) (d : S512x2048.Idx → α) (w : S128x2048.Idx → α) : S512x2048.Idx → α :=
  VecWindow.put d (rowOff i) S128x2048.size w

/-- The point's 128 rows of a buffer. -/
def getRows {α : Type} (i : grid0.Coords) (d : S512x2048.Idx → α) : S128x2048.Idx → α :=
  VecWindow.window d (rowOff i) S128x2048.size (rowOff_inb i)

/-- The normalised, modulated rows. -/
def pro (B : Blk F) : S128x2048.Idx → Elt F .bf16 := k0_pay1 B.x B.g B.sc B.sh
/-- The result's rows, of the finished sums' rows. -/
def epi (B : Blk F) (a : S128x2048.Idx → Elt F .f32) : S128x2048.Idx → Elt F .f32 := k0_pay5 B.xr B.g2 a B.fg
/-- The sums with one chunk of the hidden columns added. -/
def mm (B : Blk F) (h : S512x2048.Idx → Elt F .bf16) (a : S512x2048.Idx → Elt F .f32) : S512x2048.Idx → Elt F .f32 := k0_pay4 h B.w1 a B.w2

/-- The scratch buffers after a point. -/
def step (i : grid0.Coords) (B : Blk F) (S : St F) : St F :=
  if (i 0).val = 0 then
    (if (i 1).val = 0 then ⟨putRows i k0_pay15 (pro B), k0_pay16, k0_pay17, k0_pay18⟩ else ⟨putRows i S.h0 (pro B), S.h1, S.a0, S.a1⟩)
  else if (i 0).val = 33 then ⟨S.h0, S.h1, S.a0, putRows i S.a1 k0_pay6⟩
  else if (i 0).val % 2 = 0 then ⟨putRows i S.h0 (pro B), S.h1, putRows i S.a0 k0_pay6, mm B S.h1 S.a1⟩
  else ⟨S.h0, putRows i S.h1 (pro B), mm B S.h0 S.a0, putRows i S.a1 k0_pay6⟩

/-- The result's block after a point. -/
def outOf (i : grid0.Coords) (B : Blk F) (S : St F) : S128x2048.Idx → Elt F .f32 :=
  if (i 0).val = 0 then k0_pay2
  else if (i 0).val % 2 = 0 then epi B (getRows i S.a0) else epi B (getRows i S.a1)

/-- The first branch's condition: both grid coordinates are zero. -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

theorem cond1_iff : ∀ i : grid0.Coords, cond1 i ↔ (i 0).val = 0 ∧ (i 1).val = 0 := by decide +kernel
theorem cond2_iff : ∀ i : grid0.Coords, k0_cond2 i = 1#1 ↔ (i 0).val = 0 := by decide +kernel
theorem cond3_iff : ∀ i : grid0.Coords, k0_cond3 i = 1#1 ↔ (i 0).val ≠ 0 ∧ (i 0).val % 2 = 0 := by decide +kernel
theorem cond4_iff : ∀ i : grid0.Coords, ¬ k0_cond4 i = 1#1 := by decide +kernel
theorem cond5_iff : ∀ i : grid0.Coords, ¬ k0_cond5 i = 1#1 := by decide +kernel
theorem cond6_iff : ∀ i : grid0.Coords, k0_cond6 i = 1#1 ↔ (i 0).val ≠ 33 ∧ (i 0).val % 2 = 1 := by decide +kernel
theorem cond7_iff : ∀ i : grid0.Coords, k0_cond7 i = 1#1 ↔ (i 0).val = 33 := by decide +kernel
theorem off1_eq : ∀ i : grid0.Coords, k0_off1 i = rowOff i := by decide +kernel
theorem off2_eq : ∀ i : grid0.Coords, k0_off2 i = rowOff i := by decide +kernel
theorem off5_eq : ∀ i : grid0.Coords, k0_off5 i = rowOff i := by decide +kernel
theorem off6_eq : ∀ i : grid0.Coords, k0_off6 i = rowOff i := by decide +kernel

/-! A load or a store of a whole buffer, and of the point's rows of one. -/

section
variable {s : Shape} {e : EltTy} {a : Memref sig .tc .vmem s e} (ha : a.IsWhole)

theorem load_full (x : s.Idx → Elt F e) {off : Fin s.rank → ℕ} (inb : ∀ k, off k + s.size k ≤ s.size k) :
    View.readAt (Elt F) a.view (Rect.unit off s.size inb).toLoadRect (ha.unread x) = x := by
  rw [View.readAt_full, ha.read_unread]

theorem store_full (f) {off : Fin s.rank → ℕ} (inb : ∀ k, off k + s.size k ≤ s.size k) {w w' : s.Idx → Elt F e} (hw : w = w') (L) :
    a.view.read (Elt F) (a.view.writes (Elt F) f (⟨Rect.unit off s.size inb, w⟩ :: L)) = w' :=
  (View.read_writes_full _ _ _ _ _).trans hw
end

section
variable {e : EltTy} {a : Memref sig .tc .vmem S512x2048 e} {i : grid0.Coords} {off : Fin 2 → ℕ}

theorem load_rows (ha : a.IsWhole) (ho : off = rowOff i) (x : S512x2048.Idx → Elt F e) (inb) :
    View.readAt (Elt F) a.view (Rect.unit (s := S512x2048) off S128x2048.size inb).toLoadRect (ha.unread x) = getRows i x := by
  rw [View.readAt_unit _ _ _ ho (rowOff_inb i), ha.read_unread]
  rfl

theorem store_rows (ho : off = rowOff i) (inb) {w w' : S128x2048.Idx → Elt F e} (hw : w = w') {f L} {d : S512x2048.Idx → Elt F e}
    (hd : a.view.read (Elt F) (a.view.writes (Elt F) f L) = d) :
    a.view.read (Elt F) (a.view.writes (Elt F) f (⟨Rect.unit (s := S512x2048) off S128x2048.size inb, w⟩ :: L)) = putRows i d w' := by
  subst hw hd
  exact View.read_writes_cons_put _ _ _ _ _ ho

theorem store_rows₀ (ha : a.IsWhole) (ho : off = rowOff i) (inb) {w w' : S128x2048.Idx → Elt F e} (hw : w = w') (d : S512x2048.Idx → Elt F e) :
    a.view.read (Elt F) (a.view.writes (Elt F) (ha.unread d) [⟨Rect.unit (s := S512x2048) off S128x2048.size inb, w⟩]) = putRows i d w' :=
  store_rows ho inb hw (ha.read_unread d)
end

/-! The payloads the branches store, each one of three functions. -/

section
variable {B : Blk F} {x g sc sh xr g2 fg w1 w2}

theorem pro_a (hx : x = B.x) (hg : g = B.g) (hsc : sc = B.sc) (hsh : sh = B.sh) : k0_pay19 x g sc sh = pro B := by
  subst hx hg hsc hsh; rfl
theorem pro_b (hx : x = B.x) (hg : g = B.g) (hsc : sc = B.sc) (hsh : sh = B.sh) : k0_pay21 x g (k0_pay9 sc) (k0_pay10 sh) = pro B := by
  subst hx hg hsc hsh; rfl
theorem pro_c (hx : x = B.x) (hg : g = B.g) (hsc : sc = B.sc) (hsh : sh = B.sh) : k0_pay3 x g (k0_pay13 sc) (k0_pay14 sh) = pro B := by
  subst hx hg hsc hsh; rfl
theorem epi_a {b b'} (hx : xr = B.xr) (hg : g2 = B.g2) (hb : b = b') (hf : fg = B.fg) : k0_pay7 xr g2 b fg = epi B b' := by
  subst hx hg hb hf; rfl
theorem epi_b {b b'} (hx : xr = B.xr) (hg : g2 = B.g2) (hb : b = b') (hf : fg = B.fg) : k0_pay11 xr g2 b fg = epi B b' := by
  subst hx hg hb hf; rfl
theorem epi_c {b b'} (hx : xr = B.xr) (hg : g2 = B.g2) (hb : b = b') (hf : fg = B.fg) : k0_pay5 xr g2 b fg = epi B b' := by
  subst hx hg hb hf; rfl
theorem mm_a {h h' b b'} (hh : h = h') (h1 : w1 = B.w1) (hb : b = b') (h2 : w2 = B.w2) : k0_pay22 h w1 b w2 = mm B h' b' := by
  subst hh h1 hb h2; rfl
theorem mm_b {h h' b b'} (hh : h = h') (h1 : w1 = B.w1) (hb : b = b') (h2 : w2 = B.w2) : k0_pay4 h w1 b w2 = mm B h' b' := by
  subst hh h1 hb h2; rfl
end

theorem zero_a : k0_pay20 (F := F) = k0_pay2 := rfl
theorem zero_b : k0_pay8 (F := F) = k0_pay6 := rfl
theorem zero_c : k0_pay12 (F := F) = k0_pay6 := rfl

/-- The five kinds of point, each with its branches and what it leaves. -/
theorem kinds (i : grid0.Coords) (B : Blk F) (S : St F) :
    (cond1 i ∧ k0_cond2 i = 1#1 ∧ ¬ k0_cond3 i = 1#1 ∧ ¬ k0_cond6 i = 1#1 ∧ ¬ k0_cond7 i = 1#1
      ∧ step i B S = ⟨putRows i k0_pay15 (pro B), k0_pay16, k0_pay17, k0_pay18⟩ ∧ outOf i B S = k0_pay2)
    ∨ (¬ cond1 i ∧ k0_cond2 i = 1#1 ∧ ¬ k0_cond3 i = 1#1 ∧ ¬ k0_cond6 i = 1#1 ∧ ¬ k0_cond7 i = 1#1
      ∧ step i B S = ⟨putRows i S.h0 (pro B), S.h1, S.a0, S.a1⟩ ∧ outOf i B S = k0_pay2)
    ∨ (¬ cond1 i ∧ ¬ k0_cond2 i = 1#1 ∧ k0_cond3 i = 1#1 ∧ ¬ k0_cond6 i = 1#1 ∧ ¬ k0_cond7 i = 1#1
      ∧ step i B S = ⟨putRows i S.h0 (pro B), S.h1, putRows i S.a0 k0_pay6, mm B S.h1 S.a1⟩ ∧ outOf i B S = epi B (getRows i S.a0))
    ∨ (¬ cond1 i ∧ ¬ k0_cond2 i = 1#1 ∧ ¬ k0_cond3 i = 1#1 ∧ k0_cond6 i = 1#1 ∧ ¬ k0_cond7 i = 1#1
      ∧ step i B S = ⟨S.h0, putRows i S.h1 (pro B), mm B S.h0 S.a0, putRows i S.a1 k0_pay6⟩ ∧ outOf i B S = epi B (getRows i S.a1))
    ∨ (¬ cond1 i ∧ ¬ k0_cond2 i = 1#1 ∧ ¬ k0_cond3 i = 1#1 ∧ ¬ k0_cond6 i = 1#1 ∧ k0_cond7 i = 1#1
      ∧ step i B S = ⟨S.h0, S.h1, S.a0, putRows i S.a1 k0_pay6⟩ ∧ outOf i B S = epi B (getRows i S.a1)) := by
  rw [cond1_iff, cond2_iff, cond3_iff, cond6_iff, cond7_iff]
  unfold step outOf
  by_cases h0 : (i 0).val = 0
  · by_cases h1 : (i 1).val = 0
    · exact .inl ⟨⟨h0, h1⟩, h0, by omega, by omega, by omega, by rw [if_pos h0, if_pos h1], by rw [if_pos h0]⟩
    · exact .inr (.inl ⟨by omega, h0, by omega, by omega, by omega, by rw [if_pos h0, if_neg h1], by rw [if_pos h0]⟩)
  · by_cases h3 : (i 0).val = 33
    · exact .inr (.inr (.inr (.inr ⟨by omega, h0, by omega, by omega, h3, by rw [if_neg h0, if_pos h3], by rw [if_neg h0, if_neg (by omega)]⟩)))
    · by_cases h2 : (i 0).val % 2 = 0
      · exact .inr (.inr (.inl ⟨by omega, h0, ⟨h0, h2⟩, by omega, h3, by rw [if_neg h0, if_neg h3, if_pos h2], by rw [if_neg h0, if_pos h2]⟩))
      · exact .inr (.inr (.inr (.inl ⟨by omega, h0, by omega, by omega, h3, by rw [if_neg h0, if_neg h3, if_neg h2], by rw [if_neg h0, if_neg h2]⟩)))

attribute [local irreducible] k0_pay1 k0_pay2 k0_pay3 k0_pay4 k0_pay5 k0_pay6 k0_pay7 k0_pay8 k0_pay9 k0_pay10 k0_pay11 k0_pay12 k0_pay13
  k0_pay14 k0_pay15 k0_pay16 k0_pay17 k0_pay18 k0_pay19 k0_pay20 k0_pay21 k0_pay22 k0_pay23 k0_pay24 pro epi mm putRows getRows

set_option maxHeartbeats 2000000 in
/-- The body at any point: the inputs' blocks come back unchanged, the result's block and the scratch buffers at what
    `outOf` and `step` say. -/
theorem body_run (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S2048x2048 .bf16) (harg9 : arg9.IsWhole) (arg10 : Memref sig .tc .vmem S2048x2048 .bf16) (harg10 : arg10.IsWhole) (arg11 : Memref sig .tc .vmem S128x2048 .f32) (harg11 : arg11.IsWhole) (arg12 : Memref sig .tc .vmem S512x2048 .bf16) (harg12 : arg12.IsWhole) (arg13 : Memref sig .tc .vmem S512x2048 .bf16) (harg13 : arg13.IsWhole) (arg14 : Memref sig .tc .vmem S512x2048 .f32) (harg14 : arg14.IsWhole) (arg15 : Memref sig .tc .vmem S512x2048 .f32) (harg15 : arg15.IsWhole)
    (B : Blk F) (S : St F) (E : Set ℕ) (K : PUnit → sProp 𝕄) :
    iprop(owns c arg2 fullShare B.x ∗ owns c arg3 fullShare B.xr ∗ owns c arg4 fullShare B.g ∗ owns c arg5 fullShare B.sc ∗ owns c arg6 fullShare B.sh ∗ owns c arg7 fullShare B.g2 ∗ owns c arg8 fullShare B.fg ∗ owns c arg9 fullShare B.w1 ∗ owns c arg10 fullShare B.w2 ∗ (∃ d, owns c arg11 fullShare d) ∗ owns c arg12 fullShare S.h0 ∗ owns c arg13 fullShare S.h1 ∗ owns c arg14 fullShare S.a0 ∗ owns c arg15 fullShare S.a1
        ∗ (iprop(owns c arg2 fullShare B.x ∗ owns c arg3 fullShare B.xr ∗ owns c arg4 fullShare B.g ∗ owns c arg5 fullShare B.sc ∗ owns c arg6 fullShare B.sh ∗ owns c arg7 fullShare B.g2 ∗ owns c arg8 fullShare B.fg ∗ owns c arg9 fullShare B.w1 ∗ owns c arg10 fullShare B.w2 ∗ owns c arg11 fullShare (outOf i B S) ∗ owns c arg12 fullShare (step i B S).h0 ∗ owns c arg13 fullShare (step i B S).h1 ∗ owns c arg14 fullShare (step i B S).a0 ∗ owns c arg15 fullShare (step i B S).a1) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15) K := by
  have h4 := cond4_iff i
  have h5 := cond5_iff i
  simp only [cc0_ffn_eq_skeleton]
  unfold cc0_ffn_skel
  simp only [k0_part3_eq_skeleton]
  unfold k0_part3_skel
  simp only [k0_part2_eq_skeleton, k0_part1_eq_skeleton]
  unfold k0_part2_skel k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg12.eq_unread hf12
  obtain rfl := harg13.eq_unread hf13
  obtain rfl := harg14.eq_unread hf14
  obtain rfl := harg15.eq_unread hf15
  obtain ⟨h1, h2, h3, h6, h7, hs, ho⟩ | ⟨h1, h2, h3, h6, h7, hs, ho⟩ | ⟨h1, h2, h3, h6, h7, hs, ho⟩ | ⟨h1, h2, h3, h6, h7, hs, ho⟩ | ⟨h1, h2, h3, h6, h7, hs, ho⟩ := kinds i B S
  all_goals
    rw [hs, ho]
    sl_exec
    sl_step
    iapply Hk
    isplitl [H2]
    · iexists _; isplitr
      · ipureintro; exact harg2.read_unread _
      · iexact H2
    isplitl [H3]
    · iexists _; isplitr
      · ipureintro; exact harg3.read_unread _
      · iexact H3
    isplitl [H4]
    · iexists _; isplitr
      · ipureintro; exact harg4.read_unread _
      · iexact H4
    isplitl [H5]
    · iexists _; isplitr
      · ipureintro; exact harg5.read_unread _
      · iexact H5
    isplitl [H6]
    · iexists _; isplitr
      · ipureintro; exact harg6.read_unread _
      · iexact H6
    isplitl [H7]
    · iexists _; isplitr
      · ipureintro; exact harg7.read_unread _
      · iexact H7
    isplitl [H8]
    · iexists _; isplitr
      · ipureintro; exact harg8.read_unread _
      · iexact H8
    isplitl [H9]
    · iexists _; isplitr
      · ipureintro; exact harg9.read_unread _
      · iexact H9
    isplitl [H10]
    · iexists _; isplitr
      · ipureintro; exact harg10.read_unread _
      · iexact H10
    isplitl [H11]
    · iexists _; isplitr
      swap; · iexact H11
      ipureintro
      dsimp only
      first
      | have hc : k0_cond2 i = 1#1 := h2
        exact store_full _ _ zero_a _
      | have hc : k0_cond3 i = 1#1 := h3
        exact store_full _ _ (epi_a (load_full harg3 _ _) (load_full harg7 _ _) (load_rows harg14 (off2_eq i) _ _) (load_full harg8 _ _)) _
      | have hc : k0_cond6 i = 1#1 := h6
        exact store_full _ _ (epi_b (load_full harg3 _ _) (load_full harg7 _ _) (load_rows harg15 (off5_eq i) _ _) (load_full harg8 _ _)) _
      | have hc : k0_cond7 i = 1#1 := h7
        exact store_full _ _ (epi_c (load_full harg3 _ _) (load_full harg7 _ _) (load_rows harg15 (off6_eq i) _ _) (load_full harg8 _ _)) _
    isplitl [H12]
    · iexists _; isplitr
      swap; · iexact H12
      ipureintro
      dsimp only
      first
      | with_reducible exact harg12.read_unread _
      | have hc : cond1 i := h1
        exact store_rows (off1_eq i) _ (pro_a (load_full harg2 _ _) (load_full harg4 _ _) (load_full harg5 _ _) (load_full harg6 _ _)) (store_full _ _ rfl _)
      | have hc : k0_cond2 i = 1#1 := h2
        exact store_rows₀ harg12 (off1_eq i) _ (pro_a (load_full harg2 _ _) (load_full harg4 _ _) (load_full harg5 _ _) (load_full harg6 _ _)) _
      | have hc : k0_cond3 i = 1#1 := h3
        exact store_rows₀ harg12 (off2_eq i) _ (pro_b (load_full harg2 _ _) (load_full harg4 _ _) (load_full harg5 _ _) (load_full harg6 _ _)) _
    isplitl [H13]
    · iexists _; isplitr
      swap; · iexact H13
      ipureintro
      dsimp only
      first
      | with_reducible exact harg13.read_unread _
      | have hc : cond1 i := h1
        exact store_full _ _ rfl _
      | have hc : k0_cond6 i = 1#1 := h6
        exact store_rows₀ harg13 (off5_eq i) _ (pro_c (load_full harg2 _ _) (load_full harg4 _ _) (load_full harg5 _ _) (load_full harg6 _ _)) _
    isplitl [H14]
    · iexists _; isplitr
      swap; · iexact H14
      ipureintro
      dsimp only
      first
      | with_reducible exact harg14.read_unread _
      | have hc : cond1 i := h1
        exact store_full _ _ rfl _
      | have hc : k0_cond3 i = 1#1 := h3
        exact store_rows₀ harg14 (off2_eq i) _ zero_b _
      | have hc : k0_cond6 i = 1#1 := h6
        exact store_full _ _ (mm_b (load_full harg12 _ _) (load_full harg9 _ _) (load_full harg14 _ _) (load_full harg10 _ _)) _
    · iexists _; isplitr
      swap; · iexact H15
      ipureintro
      dsimp only
      first
      | with_reducible exact harg15.read_unread _
      | have hc : cond1 i := h1
        exact store_full _ _ rfl _
      | have hc : k0_cond6 i = 1#1 := h6
        exact store_rows₀ harg15 (off5_eq i) _ zero_c _
      | have hc : k0_cond7 i = 1#1 := h7
        exact store_rows₀ harg15 (off6_eq i) _ rfl _
      | have hc : k0_cond3 i = 1#1 := h3
        exact store_full _ _ (mm_a (load_full harg13 _ _) (load_full harg9 _ _) (load_full harg15 _ _) (load_full harg10 _ _)) _

end Cert.FfnIdeal.Run

end
-- ==== Proof.Ffn.FrameIdeal.lean ====
/- The feed-forward kernel's frame: from any memory, every weakly fair execution of the program ends, its argument arrays
   unchanged and its result array at what the body stores, block by block. The four scratch buffers' contents are carried
   from point to point: anything before the first point, what the points so far have left after it. -/
module

public import proofs.«01_k».proof.Proof.Ffn.BodyIdeal
public import Idealize.ShloMosaic.Lib.Claim

@[expose] public section

set_option maxRecDepth 16384

noncomputable section

namespace Cert.FfnIdeal.Run

open Cert.FfnIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Rounds

variable (m : (ℓ : Loc nD τ sig) → Buf (Elt F) ℓ) (ρ : Dev nD → PrngReg)

/-! Each window's staging memref at a point, whole. -/

abbrev ms0 (t : Fin cfg0.N) : Memref sig .tc .vmem S128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x2048 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x2048 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x2048 .f32 := win0_9.stage (cfg0.slots t 9)
abbrev hs9 (t : Fin cfg0.N) : (ms9 t).IsWhole := hstage0_9 ((cfg0.slots t 9).cast nbuf0_9)
/-! The scratch buffers. -/

abbrev sc0 : Memref sig .tc .vmem S512x2048 .bf16 := Memref.whole cc0_scratch0
abbrev sc1 : Memref sig .tc .vmem S512x2048 .bf16 := Memref.whole cc0_scratch1
abbrev sc2 : Memref sig .tc .vmem S512x2048 .f32 := Memref.whole cc0_scratch2
abbrev sc3 : Memref sig .tc .vmem S512x2048 .f32 := Memref.whole cc0_scratch3

/-- The inputs' blocks at a point. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t⟩

/-- The scratch buffers' contents before point `n`, the first point's not mattering. -/
def state (c : Dev nD) : ℕ → St F
  | 0 => ⟨k0_pay15, k0_pay16, k0_pay17, k0_pay18⟩
  | n + 1 => if h : n < cfg0.N then step (grid0.coords ⟨n, h⟩) (blk m c ⟨n, h⟩) (state c n) else state c n

theorem state_succ (c : Dev nD) (t : Fin cfg0.N) : state m c (t.val + 1) = step (grid0.coords t) (blk m c t) (state m c t.val) :=
  dif_pos t.isLt

/-- What the body leaves in the result's block at point `t`. -/
def outAt (c : Dev nD) (t : Fin cfg0.N) : S128x2048.Idx → Elt F .f32 := outOf (grid0.coords t) (blk m c t) (state m c t.val)

theorem coord0_zero : (grid0.coords ⟨0, by decide⟩ 0).val = 0 := by decide +kernel
theorem coord1_zero : (grid0.coords ⟨0, by decide⟩ 1).val = 0 := by decide +kernel

/-- A point leaves the next state, whatever the first point finds. -/
theorem step_state (c : Dev nD) (t : Fin cfg0.N) (S : St F) (hS : t.val ≠ 0 → S = state m c t.val) :
    step (grid0.coords t) (blk m c t) S = state m c (t.val + 1) := by
  rw [state_succ]
  by_cases h : t.val = 0
  · obtain rfl : t = ⟨0, by decide⟩ := Fin.ext h
    unfold step
    rw [if_pos coord0_zero, if_pos coord1_zero, if_pos coord0_zero, if_pos coord1_zero]
  · rw [hS h]

theorem out_state (c : Dev nD) (t : Fin cfg0.N) (S : St F) (hS : t.val ≠ 0 → S = state m c t.val) :
    outOf (grid0.coords t) (blk m c t) S = outAt m c t := by
  unfold outAt
  by_cases h : t.val = 0
  · obtain rfl : t = ⟨0, by decide⟩ := Fin.ext h
    unfold outOf
    rw [if_pos coord0_zero, if_pos coord0_zero]
  · rw [hS h]

/-- The invariant before point `t`: the scratch buffers owned, at the state once a point has run; the generator register
    at anything. -/
def Phi (c : Dev nD) (t : Fin (cfg0.N + 1)) : sProp 𝕄 :=
  iprop((∃ S : St F, owns (c : Thread nD τ) sc0 fullShare S.h0 ∗ owns (c : Thread nD τ) sc1 fullShare S.h1
    ∗ owns (c : Thread nD τ) sc2 fullShare S.a0 ∗ owns (c : Thread nD τ) sc3 fullShare S.a1
    ∗ ⌜t.val ≠ 0 → S = state m c t.val⌝) ∗ (∃ r, prngReg c r))

/-- The proof data: the arrays as the region finds them; the body leaves each input's block in place and the result's
    block at what it stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Phi m c t
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 1200000 in
/-- The body at any point: `body_run` at the windows' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).owesAt () t.succ = (dats m 0 c).owesAt () t.castSucc from rfl,
    after0, after1, after2, after3, after4, after5, after6, after7, after8, after9]
  rw [show (dats m 0 c).Φ t.castSucc = Phi m c t.castSucc from rfl, show (dats m 0 c).Φ t.succ = Phi m c t.succ from rfl]
  unfold Phi
  iintro ⟨⟨⟨%S, S0, S1, S2, S3, %hS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hst := step_state m c t S hS
  have hout := out_state m c t S hS
  iapply (body_run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) (blk m c t) S Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexact S0
  isplitl [S1]; · iexact S1
  isplitl [S2]; · iexact S2
  isplitl [S3]; · iexact S3
  rw [hst, hout]
  iintro ⟨H0, H1, H2, H3, H4, H5, H6, H7, H8, H9, S0, S1, S2, S3⟩
  isplitl [S0 S1 S2 S3 Hg]
  · isplitl [S0 S1 S2 S3]
    · iexists (state m c (t.val + 1))
      isplitl [S0]; · iexact S0
      isplitl [S1]; · iexact S1
      isplitl [S2]; · iexact S2
      isplitl [S3]; · iexact S3
      ipureintro; exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

/-- The body stores the result at every point. -/
theorem idle9 (t : Fin cfg0.N) : cfg0.idle 9 (cfg0.grid.coords t) = false :=
  (by decide +kernel : ∀ i : grid0.Coords, idle0 9 i = false) (grid0.coords t)

set_option maxHeartbeats 4000000 in
/-- The library's body obligation at every point. -/
theorem body_obligation (c : Dev nD) : BodyObligation (dats (F := F) m 0 c) (defs₀ (F := F)) Variants.none () Set.univ := fun t => by
  rw [bigSep_W0, bigSep_W0, defs₀_row]
  rewrite [idle9 t]
  exact triple_restated (sound_body m c t) rfl .rfl fun _ => .rfl

/-- What the launch hands the body beside its windows: the scratch buffers at anything and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

theorem Phi_in (c : Dev nD) : Pipeline.ΦA spec0 c ⊢ Phi m c 0 := by
  rw [PhiA_eq]; unfold Phi
  iintro ⟨⟨⟨%d0, S0⟩, ⟨%d1, S1⟩, ⟨%d2, S2⟩, ⟨%d3, S3⟩⟩, Hg⟩
  isplitl [S0 S1 S2 S3]
  · iexists (⟨d0, d1, d2, d3⟩ : St F)
    isplitl [S0]; · iexact S0
    isplitl [S1]; · iexact S1
    isplitl [S2]; · iexact S2
    isplitl [S3]; · iexact S3
    ipureintro; exact fun h => absurd rfl h
  iexact Hg

theorem Phi_out (c : Dev nD) : Phi m c (Fin.last cfg0.N) ⊢ Pipeline.ΦA spec0 c := by
  rw [PhiA_eq]; unfold Phi
  iintro ⟨⟨%S, S0, S1, S2, S3, -⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The launch: every weakly fair execution ends with every array of the pipeline at what the proof data says and every
    semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Phi_in m c) (hout := fun c => Phi_out m c)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.FfnIdeal.Run

end
-- ==== Proof.Ffn.Elements.lean ====
/- The feed-forward kernel's printed operations and the reference's, read at one element over the extended reals. -/
module

public import proofs.«01_k».proof.Proof.Ffn.FrameIdeal
public import proofs.«01_k».proof.Proof.Gen.FfnReferenceIdeal.Read
public import Idealize.ShloMosaic.Lib.Pipeline.Value
public import Idealize.ShloMosaic.Lib.Pointwise
public import Idealize.ShloMosaic.Lib.Claim

@[expose] public section

set_option maxRecDepth 16384

noncomputable section

namespace Cert.FfnIdeal.Run

open Cert.FfnIdeal Cert.FfnIdeal.Gen
open Idealize.ShloMosaic Idealize.ShloMosaic.TcCoe Idealize.ShloMosaic.Tactic Idealize.SL.Sem

theorem idx2_ext {n0 n1 : Nat} {y z : (⟨2, ![n0, n1]⟩ : Shape).Idx} (h0 : (y 0).val = (z 0).val) (h1 : (y 1).val = (z 1).val) : y = z :=
  funext fun k => match k with
  | ⟨0, _⟩ => Fin.ext h0
  | ⟨1, _⟩ => Fin.ext h1

theorem idx3_ext {n0 n1 n2 : Nat} {y z : (⟨3, ![n0, n1, n2]⟩ : Shape).Idx} (h0 : (y 0).val = (z 0).val) (h1 : (y 1).val = (z 1).val)
    (h2 : (y 2).val = (z 2).val) : y = z :=
  funext fun k => match k with
  | ⟨0, _⟩ => Fin.ext h0
  | ⟨1, _⟩ => Fin.ext h1
  | ⟨2, _⟩ => Fin.ext h2

theorem idx2_eta {n0 n1 : Nat} (y : (⟨2, ![n0, n1]⟩ : Shape).Idx) : y = ix2 (n0 := n0) (n1 := n1) (y 0) (y 1) := idx2_ext rfl rfl

/-- One over the root of the mean square of a row. -/
def rms (x : Fin 2048 → EReal) : EReal :=
  Ideal.rsqrt (Ideal.div (∑ k, x k * x k) (Ideal.ofBits FTy.f32 0x45000000#32) + Ideal.ofBits FTy.f32 0x358637BD#32)

/-- One element of the normalised, modulated rows. -/
def normEl (x g sc sh : Fin 2048 → EReal) (q : Fin 2048) : EReal := x q * rms x * g q * (1 + sc q) + sh q

/-- One hidden unit: the positive part of its input, squared. -/
def hid (h w : Fin 2048 → EReal) : EReal := max (∑ d, h d * w d) 0 * max (∑ d, h d * w d) 0

/-- One element of the result, of the token's row, the gate, the second matrix's product and the norm's weights. -/
def outEl (x g2 a fg : Fin 2048 → EReal) (q : Fin 2048) : EReal :=
  (x q + g2 q * a q) * rms (fun k => x k + g2 k * a k) * fg q

theorem pro_apply (B : Blk Ideal) (r : Fin 128) (q : Fin 2048) :
    pro B (ix2 r q) = normEl (fun k => B.x (ix2 r k)) (fun k => B.g (ix2 0 k)) (fun k => B.sc (ix3 0 0 k)) (fun k => B.sh (ix3 0 0 k)) q := by
  pointwise [pro, k0_pay1]
  rfl

theorem epi_apply (B : Blk Ideal) (a : S128x2048.Idx → EReal) (r : Fin 128) (q : Fin 2048) :
    epi B a (ix2 r q) = outEl (fun k => B.xr (ix2 r k)) (fun k => B.g2 (ix3 0 0 k)) (fun k => a (ix2 r k)) (fun k => B.fg (ix2 0 k)) q := by
  pointwise [epi, k0_pay5]
  rfl

theorem mm_apply (B : Blk Ideal) (h : S512x2048.Idx → EReal) (a : S512x2048.Idx → EReal) (r : Fin 512) (q : Fin 2048) :
    mm B h a (ix2 r q) = a (ix2 r q) + ∑ k : Fin 2048, hid (fun d => h (ix2 r d)) (fun d => B.w1 (ix2 d k)) * B.w2 (ix2 k q) := by
  pointwise [mm, k0_pay4]
  rfl

theorem zero_apply (y : S128x2048.Idx) : k0_pay6 (F := Ideal) y = 0 := by
  pointwise [k0_pay6]

theorem zero0_apply (y : S512x2048.Idx) : k0_pay17 (F := Ideal) y = 0 := by
  pointwise [k0_pay17]

theorem zero1_apply (y : S512x2048.Idx) : k0_pay18 (F := Ideal) y = 0 := by
  pointwise [k0_pay18]

section
open Cert.FfnReferenceIdeal.Read

variable (x0 : S16384x2048.Idx → EReal) (x1 : S1x2048.Idx → EReal)
  (x2 x3 x4 : S4x1x2048.Idx → EReal) (x5 : S1x2048.Idx → EReal) (x6 : S2048x8192.Idx → EReal) (x7 : S8192x2048.Idx → EReal)

/-- The first axis of the tokens, of a row of all of them. -/
def seqOf (R : Fin 16384) : Fin 4 := ⟨R.val / 4096, by omega⟩
/-- The second axis of the tokens, of a row of all of them. -/
def posOf (R : Fin 16384) : Fin 4096 := ⟨R.val % 4096, by omega⟩
/-- A token's row among all of them. -/
def rowAt (b : Fin 4) (s : Fin 4096) : Fin 16384 := ⟨b.val * 4096 + s.val, by omega⟩

/-- The normalised, modulated row of a token. -/
def normRow (R : Fin 16384) : Fin 2048 → EReal :=
  normEl (fun k => x0 (ix2 R k)) (fun k => x1 (ix2 0 k)) (fun k => x2 (ix3 (seqOf R) 0 k)) (fun k => x3 (ix3 (seqOf R) 0 k))

/-- The second matrix's product, of a token. -/
def ffRow (R : Fin 16384) (q : Fin 2048) : EReal :=
  ∑ k : Fin 8192, hid (normRow x0 x1 x2 x3 R) (fun d => x6 (ix2 d k)) * x7 (ix2 k q)

theorem ref0_apply (b : Fin 4) (s : Fin 4096) (q : Fin 2048) : val_main_v0 (F := Ideal) x0 (ix3 b s q) = x0 (ix2 (rowAt b s) q) := by
  rw [val_main_v0_apply]
  refine congrArg x0 (idx2_ext (n0 := 16384) (n1 := 2048) ?_ ?_)
  · show ((b.val * 4096 + s.val) * 2048 + q.val) / 2048 = b.val * 4096 + s.val
    omega
  · show ((b.val * 4096 + s.val) * 2048 + q.val) % 2048 = q.val
    omega

theorem refNorm_apply (b : Fin 4) (s : Fin 4096) (q : Fin 2048) :
    val_main_v19 (F := Ideal) x0 x1 x2 x3 (ix3 b s q) = normRow x0 x1 x2 x3 (rowAt b s) q := by
  have hb : seqOf (rowAt b s) = b := Fin.ext (show (b.val * 4096 + s.val) / 4096 = b.val by omega)
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, val_main_cst_2]
  simp only [ref0_apply]
  unfold normRow normEl rms
  rw [hb]

theorem refFf_apply (b : Fin 4) (s : Fin 4096) (q : Fin 2048) :
    val_main_v25 (F := Ideal) x0 x1 x2 x3 x6 x7 (ix3 b s q) = ffRow x0 x1 x2 x3 x6 x7 (rowAt b s) q := by
  pointwise [val_main_v25, val_main_v24, val_main_v23, val_main_v22, val_main_v21, val_main_v20, val_main_call0_v0, val_main_call0_cst]
  simp only [refNorm_apply]
  rfl

theorem refRes_apply (b : Fin 4) (s : Fin 4096) (q : Fin 2048) :
    val_main_v28 (F := Ideal) x0 x1 x2 x3 x4 x6 x7 (ix3 b s q)
      = x0 (ix2 (rowAt b s) q) + x4 (ix3 b 0 q) * ffRow x0 x1 x2 x3 x6 x7 (rowAt b s) q := by
  pointwise [val_main_v28, val_main_v27, val_main_v26]
  rw [ref0_apply, refFf_apply]

/-- The reference's result, at one element. -/
theorem ref_apply (R : Fin 16384) (q : Fin 2048) :
    val_main_v42 (F := Ideal) x0 x1 x2 x3 x4 x5 x6 x7 (ix2 R q)
      = outEl (fun k => x0 (ix2 R k)) (fun k => x4 (ix3 (seqOf R) 0 k)) (ffRow x0 x1 x2 x3 x6 x7 R) (fun k => x5 (ix2 0 k)) q := by
  have e : val_main_v42 (F := Ideal) x0 x1 x2 x3 x4 x5 x6 x7 (ix2 R q) = val_main_v41 (F := Ideal) x0 x1 x2 x3 x4 x5 x6 x7 (ix3 (seqOf R) (posOf R) q) := by
    pointwise [val_main_v42]
    rfl
  have hR : rowAt (seqOf R) (posOf R) = R := Fin.ext (show R.val / 4096 * 4096 + R.val % 4096 = R.val by omega)
  rw [e]
  pointwise [val_main_v41, val_main_v40, val_main_v39, val_main_v38, val_main_v37, val_main_v36, val_main_v35, val_main_v34, val_main_v33, val_main_v32, val_main_v31, val_main_v30, val_main_v29, val_main_cst_3, val_main_cst_4]
  simp only [refRes_apply, hR]
  rfl
end

end Cert.FfnIdeal.Run

end
-- ==== Proof.Ffn.Blocks.lean ====
/- The blocks of the feed-forward kernel's inputs at a point, as elements of the argument arrays, and what the body's
   three functions make of them. -/
module

public import proofs.«01_k».proof.Proof.Ffn.Elements

@[expose] public section

set_option maxRecDepth 16384

noncomputable section

namespace Cert.FfnIdeal.Run

open Cert.FfnIdeal Cert.FfnIdeal.Gen
open Idealize.ShloMosaic Idealize.ShloMosaic.TcCoe Idealize.ShloMosaic.Tactic Idealize.SL.Sem

variable (m : (ℓ : Loc nD τ sig) → Buf (Elt Ideal) ℓ) (c : Dev nD) (t : Fin cfg0.N)

theorem coord0 : ∀ t : Fin cfg0.N, (grid0.coords t 0).val = t.val / 4 := (by decide +kernel : ∀ t : Fin grid0.N, _)
theorem coord1 : ∀ t : Fin cfg0.N, (grid0.coords t 1).val = t.val % 4 := (by decide +kernel : ∀ t : Fin grid0.N, _)

theorem index0 : ∀ t : Fin cfg0.N, t.val < 128 → win0_0.index t = ![t.val, 0] := (by decide +kernel : ∀ t : Fin grid0.N, t.val < 128 → _)
theorem index1 : ∀ t : Fin cfg0.N, 8 ≤ t.val → win0_1.index t = ![t.val - 8, 0] := (by decide +kernel : ∀ t : Fin grid0.N, 8 ≤ t.val → _)
theorem index2 : ∀ t : Fin cfg0.N, win0_2.index t = ![0, 0] := (by decide +kernel : ∀ t : Fin grid0.N, _)
theorem index3 : ∀ t : Fin cfg0.N, t.val < 128 → win0_3.index t = ![t.val / 32, 0, 0] := (by decide +kernel : ∀ t : Fin grid0.N, t.val < 128 → _)
theorem index4 : ∀ t : Fin cfg0.N, t.val < 128 → win0_4.index t = ![t.val / 32, 0, 0] := (by decide +kernel : ∀ t : Fin grid0.N, t.val < 128 → _)
theorem index5 : ∀ t : Fin cfg0.N, 8 ≤ t.val → win0_5.index t = ![(t.val - 8) / 32, 0, 0] := (by decide +kernel : ∀ t : Fin grid0.N, 8 ≤ t.val → _)
theorem index6 : ∀ t : Fin cfg0.N, win0_6.index t = ![0, 0] := (by decide +kernel : ∀ t : Fin grid0.N, _)
theorem index7 : ∀ t : Fin cfg0.N, 4 ≤ t.val → t.val < 132 → win0_7.index t = ![0, t.val % 4] := (by decide +kernel : ∀ t : Fin grid0.N, 4 ≤ t.val → t.val < 132 → _)
theorem index8 : ∀ t : Fin cfg0.N, 4 ≤ t.val → t.val < 132 → win0_8.index t = ![t.val % 4, 0] := (by decide +kernel : ∀ t : Fin grid0.N, 4 ≤ t.val → t.val < 132 → _)
theorem index9 : ∀ t : Fin cfg0.N, 8 ≤ t.val → win0_9.index t = ![t.val - 8, 0] := (by decide +kernel : ∀ t : Fin grid0.N, 8 ≤ t.val → _)
theorem flush9 : ∀ t : Fin cfg0.N, win0_9.flush t = true → 8 ≤ t.val := (by decide +kernel : ∀ t : Fin grid0.N, win0_9.flush t = true → 8 ≤ t.val)

/-! The argument arrays. -/

abbrev X : S16384x2048.Idx → EReal := m (c, Proc.tc.devRef main_arg0)
abbrev G : S1x2048.Idx → EReal := m (c, Proc.tc.devRef main_arg1)
abbrev Sc : S4x1x2048.Idx → EReal := m (c, Proc.tc.devRef main_arg2)
abbrev Sh : S4x1x2048.Idx → EReal := m (c, Proc.tc.devRef main_arg3)
abbrev G2 : S4x1x2048.Idx → EReal := m (c, Proc.tc.devRef main_arg4)
abbrev Fg : S1x2048.Idx → EReal := m (c, Proc.tc.devRef main_arg5)
abbrev W1 : S2048x8192.Idx → EReal := m (c, Proc.tc.devRef main_arg6)
abbrev W2 : S8192x2048.Idx → EReal := m (c, Proc.tc.devRef main_arg7)

/-- A token's row, of any number. -/
def tok (n : ℕ) : Fin 16384 := ⟨n % 16384, Nat.mod_lt _ (by decide)⟩
/-- A hidden column, of any number. -/
def col (n : ℕ) : Fin 8192 := ⟨n % 8192, Nat.mod_lt _ (by decide)⟩

theorem block0 (h : t.val < 128) (r : Fin 128) (q : Fin 2048) : iblk m c 0 t (ix2 r q) = X m c (ix2 (tok (t.val * 128 + r.val)) q) := by
  have := r.isLt
  blk_simp [iblk]
  exact congrArg _ (idx2_ext (n0 := 16384) (n1 := 2048) (by blk_simp [index0 t h]; show _ = (t.val * 128 + r.val) % 16384; omega) (by blk_simp [index0 t h]))

theorem block1 (h : 8 ≤ t.val) (r : Fin 128) (q : Fin 2048) : iblk m c 1 t (ix2 r q) = X m c (ix2 (tok ((t.val - 8) * 128 + r.val)) q) := by
  have := r.isLt
  have : t.val < 136 := t.isLt
  blk_simp [iblk]
  exact congrArg _ (idx2_ext (n0 := 16384) (n1 := 2048) (by blk_simp [index1 t h]; show _ = ((t.val - 8) * 128 + r.val) % 16384; omega) (by blk_simp [index1 t h]))

theorem block2 (q : Fin 2048) : iblk m c 2 t (ix2 0 q) = G m c (ix2 0 q) := by
  blk_simp [iblk]
  exact congrArg _ (idx2_ext (n0 := 1) (n1 := 2048) (by blk_simp [index2]) (by blk_simp [index2]))

/-- The sequence of a token. -/
theorem seqOf_tok (n r : ℕ) (hn : n < 128) (hr : r < 128) : (seqOf (tok (n * 128 + r))).val = n / 32 := by
  show (n * 128 + r) % 16384 / 4096 = n / 32
  omega

theorem block3 (h : t.val < 128) (r : Fin 128) (q : Fin 2048) : iblk m c 3 t (ix3 0 0 q) = Sc m c (ix3 (seqOf (tok (t.val * 128 + r.val))) 0 q) := by
  have e := seqOf_tok t.val r.val h r.isLt
  blk_simp [iblk]
  exact congrArg _ (idx3_ext (n0 := 4) (n1 := 1) (n2 := 2048) (by blk_simp [index3 t h]; exact e.symm) (by blk_simp [index3 t h]) (by blk_simp [index3 t h]))

theorem block4 (h : t.val < 128) (r : Fin 128) (q : Fin 2048) : iblk m c 4 t (ix3 0 0 q) = Sh m c (ix3 (seqOf (tok (t.val * 128 + r.val))) 0 q) := by
  have e := seqOf_tok t.val r.val h r.isLt
  blk_simp [iblk]
  exact congrArg _ (idx3_ext (n0 := 4) (n1 := 1) (n2 := 2048) (by blk_simp [index4 t h]; exact e.symm) (by blk_simp [index4 t h]) (by blk_simp [index4 t h]))

theorem block5 (h : 8 ≤ t.val) (r : Fin 128) (q : Fin 2048) : iblk m c 5 t (ix3 0 0 q) = G2 m c (ix3 (seqOf (tok ((t.val - 8) * 128 + r.val))) 0 q) := by
  have : t.val < 136 := t.isLt
  have e := seqOf_tok (t.val - 8) r.val (by omega) r.isLt
  blk_simp [iblk]
  exact congrArg _ (idx3_ext (n0 := 4) (n1 := 1) (n2 := 2048) (by blk_simp [index5 t h]; exact e.symm) (by blk_simp [index5 t h]) (by blk_simp [index5 t h]))

theorem block6 (q : Fin 2048) : iblk m c 6 t (ix2 0 q) = Fg m c (ix2 0 q) := by
  blk_simp [iblk]
  exact congrArg _ (idx2_ext (n0 := 1) (n1 := 2048) (by blk_simp [index6]) (by blk_simp [index6]))

theorem block7 (h : 4 ≤ t.val) (h' : t.val < 132) (d k : Fin 2048) : iblk m c 7 t (ix2 d k) = W1 m c (ix2 d (col (2048 * (t.val % 4) + k.val))) := by
  have := k.isLt
  blk_simp [iblk]
  exact congrArg _ (idx2_ext (n0 := 2048) (n1 := 8192) (by blk_simp [index7 t h h']) (by blk_simp [index7 t h h']; show _ = (2048 * (t.val % 4) + k.val) % 8192; omega))

theorem block8 (h : 4 ≤ t.val) (h' : t.val < 132) (k q : Fin 2048) : iblk m c 8 t (ix2 k q) = W2 m c (ix2 (col (2048 * (t.val % 4) + k.val)) q) := by
  have := k.isLt
  blk_simp [iblk]
  exact congrArg _ (idx2_ext (n0 := 8192) (n1 := 2048) (by blk_simp [index8 t h h']; show _ = (2048 * (t.val % 4) + k.val) % 8192; omega) (by blk_simp [index8 t h h']))

/-- The normalised, modulated row of a token. -/
def hRow (n : ℕ) : Fin 2048 → EReal := normRow (X m c) (G m c) (Sc m c) (Sh m c) (tok n)

/-- What one chunk of the hidden columns gives to a token's product. -/
def chunk (n j : ℕ) (q : Fin 2048) : EReal :=
  ∑ k : Fin 2048, hid (hRow m c n) (fun d => W1 m c (ix2 d (col (2048 * j + k.val)))) * W2 m c (ix2 (col (2048 * j + k.val)) q)

/-- A token's product over the first chunks. -/
def part (n : ℕ) : ℕ → Fin 2048 → EReal
  | 0, _ => 0
  | j + 1, q => part n j q + chunk m c n j q

theorem pro_blk (h : t.val < 128) (r : Fin 128) (q : Fin 2048) : pro (blk m c t) (ix2 r q) = hRow m c (t.val * 128 + r.val) q := by
  rw [pro_apply]
  unfold blk
  dsimp only
  rw [funext (block0 m c t h r), funext (block2 m c t), funext (block3 m c t h r), funext (block4 m c t h r)]
  rfl

theorem mm_blk (h : 4 ≤ t.val) (h' : t.val < 132) (n : ℕ) (hh a : S512x2048.Idx → EReal) (y : Fin 512) (hy : ∀ d, hh (ix2 y d) = hRow m c n d) (q : Fin 2048) :
    mm (blk m c t) hh a (ix2 y q) = a (ix2 y q) + chunk m c n (t.val % 4) q := by
  rw [mm_apply]
  unfold blk chunk
  dsimp only
  rw [funext hy]
  refine congrArg _ (Finset.sum_congr rfl fun k _ => ?_)
  rw [block8 m c t h h', funext fun d => block7 m c t h h' d k]

theorem sum_chunks (f : Fin 8192 → EReal) :
    0 + (∑ k : Fin 2048, f (col (2048 * 0 + k.val))) + (∑ k : Fin 2048, f (col (2048 * 1 + k.val))) + (∑ k : Fin 2048, f (col (2048 * 2 + k.val)))
      + (∑ k : Fin 2048, f (col (2048 * 3 + k.val))) = ∑ k, f k := by
  rw [← (finProdFinEquiv : Fin 4 × Fin 2048 ≃ Fin (4 * 2048)).sum_comp (g := (f : Fin (4 * 2048) → EReal)), Fintype.sum_prod_type, Fin.sum_univ_four, zero_add]
  have e : ∀ (j : Fin 4) (k : Fin 2048), (finProdFinEquiv (j, k) : Fin (4 * 2048)) = col (2048 * j.val + k.val) := fun j k => Fin.ext (by
    show k.val + 2048 * j.val = (2048 * j.val + k.val) % 8192
    omega)
  simp only [e]
  rfl

/-- Over all four chunks: the whole product. -/
theorem part_four (n : ℕ) (q : Fin 2048) : part m c n 4 q = ffRow (X m c) (G m c) (Sc m c) (Sh m c) (W1 m c) (W2 m c) (tok n) q :=
  sum_chunks fun k => hid (hRow m c n) (fun d => W1 m c (ix2 d k)) * W2 m c (ix2 k q)

theorem epi_blk (h : 8 ≤ t.val) (a : S128x2048.Idx → EReal) (r : Fin 128) (ha : ∀ q, a (ix2 r q) = part m c ((t.val - 8) * 128 + r.val) 4 q) (q : Fin 2048) :
    epi (blk m c t) a (ix2 r q) = Cert.FfnReferenceIdeal.Read.val_main_v42 (F := Ideal) (X m c) (G m c) (Sc m c) (Sh m c) (G2 m c) (Fg m c) (W1 m c) (W2 m c)
      (ix2 (tok ((t.val - 8) * 128 + r.val)) q) := by
  rw [epi_apply]
  refine Eq.trans ?_ (ref_apply _ _ _ _ _ _ _ _ _ _).symm
  unfold blk
  dsimp only
  rw [funext (block1 m c t h r), funext (block5 m c t h r), funext (block6 m c t), funext fun k => (ha k).trans (part_four m c _ k)]

end Cert.FfnIdeal.Run

end
-- ==== Proof.Ffn.Value.lean ====
/- The feed-forward kernel's result: what the scratch buffers hold before each point, and so the whole array after the run
   is the reference's. A tile is 512 tokens; in each pass over the four points of a tile one pair of buffers takes the next
   tile's normalised rows and gives up the finished sums, 128 rows a point, while the other pair takes a chunk of the
   hidden columns a point. -/
module

public import proofs.«01_k».proof.Proof.Ffn.Blocks

@[expose] public section

set_option maxRecDepth 16384

noncomputable section

namespace Cert.FfnIdeal.Run

open Cert.FfnIdeal Cert.FfnIdeal.Gen
open Idealize.ShloMosaic Idealize.ShloMosaic.TcCoe Idealize.ShloMosaic.Tactic Idealize.SL.Sem

variable (m : (ℓ : Loc nD τ sig) → Buf (Elt Ideal) ℓ) (c : Dev nD) (t : Fin cfg0.N)

/-- The normalised rows' buffer of a pass, by its number's parity. -/
def hAt (S : St Ideal) (p : ℕ) : S512x2048.Idx → EReal := if p % 2 = 0 then S.h0 else S.h1
/-- The sums' buffer of a pass, by its number's parity. -/
def aAt (S : St Ideal) (p : ℕ) : S512x2048.Idx → EReal := if p % 2 = 0 then S.a0 else S.a1

theorem hAt_add (S : St Ideal) (p : ℕ) : hAt S (p + 2) = hAt S p := by
  unfold hAt; rw [Nat.add_mod_right]
theorem aAt_add (S : St Ideal) (p : ℕ) : aAt S (p + 2) = aAt S p := by
  unfold aAt; rw [Nat.add_mod_right]

section
variable (i : grid0.Coords) (B : Blk Ideal) (S : St Ideal)

/-- One element after 128 rows are replaced. -/
theorem putRows_apply (d : S512x2048.Idx → EReal) (w : S128x2048.Idx → EReal) (y : Fin 512) (q : Fin 2048) :
    putRows i d w (ix2 y q) = if h : 128 * (i 1).val ≤ y.val ∧ y.val < 128 * (i 1).val + 128 then w (ix2 ⟨y.val - 128 * (i 1).val, by omega⟩ q) else d (ix2 y q) := by
  unfold putRows VecWindow.put
  by_cases h : 128 * (i 1).val ≤ y.val ∧ y.val < 128 * (i 1).val + 128
  · have h' : ∀ a : Fin 2, rowOff i a ≤ ((ix2 y q : S512x2048.Idx) a).val ∧ ((ix2 y q : S512x2048.Idx) a).val < rowOff i a + S128x2048.size a := fun a => match a with
      | ⟨0, _⟩ => h
      | ⟨1, _⟩ => ⟨Nat.zero_le _, show q.val < 0 + 2048 by omega⟩
    rw [dif_pos h, dif_pos h']
    exact congrArg w (idx2_ext (n0 := 128) (n1 := 2048) rfl (show q.val - 0 = q.val by omega))
  · rw [dif_neg h, dif_neg fun h' => h (h' 0)]

theorem getRows_apply (d : S512x2048.Idx → EReal) (r : Fin 128) (q : Fin 2048) :
    getRows i d (ix2 r q) = d (ix2 ⟨128 * (i 1).val + r.val, by have : (i 1).val < 4 := (i 1).isLt; omega⟩ q) := by
  unfold getRows VecWindow.window
  exact congrArg d (idx2_ext (n0 := 512) (n1 := 2048) (show 128 * (i 1).val + 1 * r.val = 128 * (i 1).val + r.val by omega) (show 0 + 1 * q.val = q.val by omega))

variable (h0 : (i 0).val ≠ 0)
include h0

theorem step_h (h1 : (i 0).val ≠ 33) : hAt (step i B S) (i 0).val = putRows i (hAt S (i 0).val) (pro B) := by
  unfold step hAt
  rw [if_neg h0, if_neg h1]
  split <;> rfl

theorem step_h' (h1 : (i 0).val ≠ 33) : hAt (step i B S) ((i 0).val + 1) = hAt S ((i 0).val + 1) := by
  unfold step hAt
  rw [if_neg h0, if_neg h1]
  by_cases h : (i 0).val % 2 = 0
  · rw [if_pos h, if_neg (by omega), if_neg (by omega)]
  · rw [if_neg h, if_pos (by omega), if_pos (by omega)]

theorem step_a : aAt (step i B S) (i 0).val = putRows i (aAt S (i 0).val) (k0_pay6 (F := Ideal)) := by
  unfold step aAt
  rw [if_neg h0]
  by_cases h1 : (i 0).val = 33
  · rw [if_pos h1, if_neg (by omega), if_neg (by omega)]
  · rw [if_neg h1]
    split <;> rfl

theorem step_a' (h1 : (i 0).val ≠ 33) : aAt (step i B S) ((i 0).val + 1) = mm B (hAt S ((i 0).val + 1)) (aAt S ((i 0).val + 1)) := by
  unfold step aAt hAt
  rw [if_neg h0, if_neg h1]
  by_cases h : (i 0).val % 2 = 0
  · rw [if_pos h, if_neg (by omega), if_neg (by omega), if_neg (by omega)]
  · rw [if_neg h, if_pos (by omega), if_pos (by omega), if_pos (by omega)]

theorem out_eq : outOf i B S = epi B (getRows i (aAt S (i 0).val)) := by
  unfold outOf aAt
  rw [if_neg h0]
  split <;> rfl
end

/-- What the buffers hold in pass `p` before its point `j`, of the first `j` slabs of 128 rows and the first `j` chunks. -/
structure Holds (p j : ℕ) (S : St Ideal) : Prop where
  rows : p ≤ 31 → ∀ (y : Fin 512) q, y.val < 128 * j → hAt S p (ix2 y q) = hRow m c (512 * p + y.val) q
  old : 1 ≤ p → p ≤ 32 → ∀ (y : Fin 512) q, hAt S (p + 1) (ix2 y q) = hRow m c (512 * (p - 1) + y.val) q
  sums : 1 ≤ p → p ≤ 32 → ∀ (y : Fin 512) q, aAt S (p + 1) (ix2 y q) = part m c (512 * (p - 1) + y.val) j q
  first : p = 0 → 1 ≤ j → ∀ (y : Fin 512) q, aAt S p (ix2 y q) = 0 ∧ aAt S (p + 1) (ix2 y q) = 0
  done : 1 ≤ p → ∀ (y : Fin 512) q, aAt S p (ix2 y q) = if y.val < 128 * j ∨ p = 1 then 0 else part m c (512 * (p - 2) + y.val) 4 q

/-- From the end of a pass to the start of the next. -/
theorem Holds.next {p : ℕ} {S : St Ideal} (h2 : p ≤ 32) (H : Holds m c p 4 S) : Holds m c (p + 1) 0 S where
  rows _ y q h := absurd h (by omega)
  old _ h y q := by
    rw [hAt_add, H.rows (by omega) y q (by omega)]
    rfl
  sums _ h y q := by
    rw [aAt_add]
    by_cases hp : p = 0
    · exact (H.first hp (by decide) y q).1
    · rw [H.done (by omega) y q, if_pos (.inl (by omega))]
      rfl
  first h := absurd h (by omega)
  done _ y q := by
    by_cases hp : p = 0
    · rw [(H.first hp (by decide) y q).2, if_pos (.inr (by omega))]
    · rw [H.sums (by omega) h2 y q, if_neg (by omega)]
      rfl

/-- One point of a pass. -/
theorem Holds.step {p j : ℕ} {S : St Ideal} (hp : t.val / 4 = p) (hj : t.val % 4 = j) (H : Holds m c p j S) :
    Holds m c p (j + 1) (step (grid0.coords t) (blk m c t) S) := by
  have c0 : (grid0.coords t 0).val = p := (coord0 t).trans hp
  have c1 : (grid0.coords t 1).val = j := (coord1 t).trans hj
  have ht : t.val < 136 := t.isLt
  have slab : ∀ d : S512x2048.Idx → EReal, p ≤ 31 → (∀ (y : Fin 512) q, y.val < 128 * j → d (ix2 y q) = hRow m c (512 * p + y.val) q) →
      ∀ (y : Fin 512) q, y.val < 128 * (j + 1) → putRows (grid0.coords t) d (pro (blk m c t)) (ix2 y q) = hRow m c (512 * p + y.val) q := fun d h hd y q hy => by
    rw [putRows_apply]
    split
    · next h' =>
      rw [pro_blk m c t (by omega)]
      exact congrArg (fun n => hRow m c n q) (show t.val * 128 + (y.val - 128 * (grid0.coords t 1).val) = 512 * p + y.val by omega)
    · exact hd y q (by omega)
  by_cases h0 : p = 0
  · subst h0
    refine ⟨fun h => ?_, fun h => absurd h (by omega), fun h => absurd h (by omega), fun _ _ => ?_, fun h => absurd h (by omega)⟩
    · unfold hAt Run.step
      rw [if_pos (by omega), if_pos c0]
      by_cases h1 : j = 0
      · rw [if_pos (c1.trans h1)]
        exact slab _ h fun y q hy => absurd hy (by omega)
      · rw [if_neg (by omega)]
        exact slab _ h (H.rows h)
    · rw [show ∀ S, aAt S 0 = S.a0 from fun _ => rfl, show ∀ S, aAt S (0 + 1) = S.a1 from fun _ => rfl]
      unfold Run.step
      rw [if_pos c0]
      by_cases h1 : j = 0
      · rw [if_pos (c1.trans h1)]
        exact fun y q => ⟨zero0_apply (ix2 y q), zero1_apply (ix2 y q)⟩
      · rw [if_neg (by omega)]
        exact H.first rfl (by omega)
  · have n0 : (grid0.coords t 0).val ≠ 0 := by omega
    refine ⟨fun h => ?_, fun _ h => ?_, fun _ h => ?_, fun h => absurd h h0, fun _ => ?_⟩
    · have e := step_h (grid0.coords t) (blk m c t) S n0 (by omega)
      rw [c0] at e
      rw [e]
      exact slab _ h (H.rows h)
    · have e := step_h' (grid0.coords t) (blk m c t) S n0 (by omega)
      rw [c0] at e
      rw [e]
      exact H.old (by omega) h
    · have e := step_a' (grid0.coords t) (blk m c t) S n0 (by omega)
      rw [c0] at e
      rw [e]
      intro y q
      rw [mm_blk m c t (by omega) (by omega) _ _ _ y (H.old (by omega) h y), H.sums (by omega) h y q, hj]
      rfl
    · have e := step_a (grid0.coords t) (blk m c t) S n0
      rw [c0] at e
      rw [e]
      intro y q
      rw [putRows_apply]
      split
      · rw [if_pos (.inl (by omega))]
        exact zero_apply _
      · rw [H.done (by omega) y q]
        exact if_congr (by omega) rfl rfl

theorem holds_state : ∀ n, n < 136 → Holds m c (n / 4) (n % 4) (state m c n)
  | 0, _ => ⟨fun _ y q h => absurd h (by omega), fun h => absurd h (by omega), fun h => absurd h (by omega), fun _ h => absurd h (by omega), fun h => absurd h (by omega)⟩
  | n + 1, h => by
    have H := (holds_state n (by omega)).step m c ⟨n, show n < 136 by omega⟩ rfl rfl
    rw [← state_succ m c ⟨n, show n < 136 by omega⟩] at H
    by_cases h3 : n % 4 = 3
    · rw [show (n + 1) / 4 = n / 4 + 1 by omega, show (n + 1) % 4 = 0 by omega]
      rw [h3] at H
      exact H.next m c (by omega)
    · rw [show (n + 1) / 4 = n / 4 by omega, show (n + 1) % 4 = n % 4 + 1 by omega]
      exact H

/-- The result, the whole array after the run: the reference's. -/
theorem arr9 : (dats m 0 c).arrAt 9 cfg0.N
    = (Cert.FfnReferenceIdeal.Read.val_main_v42 (F := Ideal) (X m c) (G m c) (Sc m c) (Sh m c) (G2 m c) (Fg m c) (W1 m c) (W2 m c) : S16384x2048.Idx → EReal) := by
  refine (dats m 0 c).arrAt_eq_of_covers 9 _ (by decide +kernel) fun t hf y => ?_
  have h8 := flush9 t hf
  have ht : t.val < 136 := t.isLt
  blk_simp
  rw [after9]
  unfold outAt
  rw [out_eq _ _ _ (by rw [coord0]; omega)]
  obtain ⟨Y, Q, rfl⟩ : ∃ (Y : Fin 128) (Q : Fin 2048), y = (ix2 Y Q : (⟨2, ![128, 2048]⟩ : Shape).Idx) := ⟨y 0, y 1, idx2_eta y⟩
  have hY := Y.isLt
  have c1 := coord1 t
  refine Eq.trans (epi_blk m c t h8 _ Y (fun q => ?_) Q)
    (congrArg _ (idx2_ext (n0 := 16384) (n1 := 2048) (by blk_simp [index9 t h8]; show _ = ((t.val - 8) * 128 + Y.val) % 16384; omega) (by blk_simp [index9 t h8])).symm)
  rw [getRows_apply, coord0, (holds_state m c t.val ht).done (by omega), if_neg (by dsimp only; omega)]
  exact congrArg (fun n => part m c n 4 q) (by dsimp only; omega)

/-- The run leaves the reference's array in the result, the arguments unchanged. -/
theorem run_result (ρ : Dev nD → PrngReg) :
    θ_run defs (onTc (τ := τ) (main (F := Ideal))) ⟨m, fun _ => 0, ρ⟩ fun r => ∀ c : Dev nD,
      r.2.mem ((c.tc : Thread nD τ).loc main_v0)
          = (Cert.FfnReferenceIdeal.Read.val_main_v42 (F := Ideal) (X m c) (G m c) (Sc m c) (Sh m c) (G2 m c) (Fg m c) (W1 m c) (W2 m c) : S16384x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 9).trans (arr9 m c), h.2.1 c⟩)
    (θ_run_and (run_main m ρ) (frame m ρ))

end Cert.FfnIdeal.Run

end
-- ==== Proof.Inproj.Blocks.lean ====
/- What the input projection's kernel leaves in each block of its results, as one function of the position in the block:
   the printed body writes the same product out for each pair of a row half and a column chunk, and each written-out copy
   is this function. -/
module

public import proofs.«01_k».proof.Proof.Gen.InprojIdeal.Value
public import Idealize.ShloMosaic.Lib.WholeRead
public import Idealize.ShloMosaic.Lib.Pipeline.ValueKit.Geometry
public import Idealize.ShloMosaic.Lib.Pointwise

@[expose] public section

set_option maxRecDepth 16384

noncomputable section

namespace Cert.InprojIdeal.Blocks

open Cert.InprojIdeal.Gen
open Idealize.ShloMosaic Idealize.ShloMosaic.TcCoe Idealize.ShloMosaic.Tactic

variable {F : FTy → Type} [FloatOps F] [Named F]

theorem inb2 {o0 o1 t0 t1 s0 s1 : Nat} (h0 : o0 + t0 ≤ s0) (h1 : o1 + t1 ≤ s1) :
    ∀ a : Fin 2, (![o0, o1] : Fin 2 → Nat) a + (![t0, t1] : Fin 2 → Nat) a ≤ (![s0, s1] : Fin 2 → Nat) a :=
  Fin.forall_fin_two.mpr ⟨h0, h1⟩

/-- Rows `256·k …` of the token block. -/
def xSlab (x0 : Vec F S512x2048 .f32) (k : Nat) : Vec F S256x2048 .f32 := fun y =>
  x0 (ix2 ⟨(256 * k + (y 0).val) % 512, Nat.mod_lt _ (by decide)⟩ (y 1))

/-- The normalised, modulated rows `256·k …`. -/
def hSlab (x0 : Vec F S512x2048 .f32) (x1 : Vec F S1x2048 .f32) (x2 x3 : Vec F S1x1x2048 .f32) (k : Nat) : FVec F S256x2048 .bf16 :=
  k0_pay8 x1 x2 x3 (xSlab x0 k)

/-- The normalised, modulated block. -/
def hBlock (x0 : Vec F S512x2048 .f32) (x1 : Vec F S1x2048 .f32) (x2 x3 : Vec F S1x1x2048 .f32) : S512x2048.Idx → Elt F .bf16 := fun y =>
  hSlab x0 x1 x2 x3 ((y 0).val / 256) (ix2 ⟨(y 0).val % 256, Nat.mod_lt _ (by decide)⟩ (y 1))

/-- Columns `d …` of a weight array of width `n`. -/
def wCols {n : Nat} (hn : 0 < n) (w : (⟨2, ![2048, n]⟩ : Shape).Idx → Elt F .bf16) (d : Nat) : Vec F S2048x512 .bf16 := fun y =>
  w (ix2 (y 0) ⟨(d + (y 1).val) % n, Nat.mod_lt _ hn⟩)

/-- Columns `d …` of the bias row. -/
def bCols (b : Vec F S1x6144 .f32) (d : Nat) : Vec F S1x512 .f32 := fun y =>
  b (ix2 (y 0) ⟨(d + (y 1).val) % 6144, Nat.mod_lt _ (by decide)⟩)

/-- One product with its bias, as printed. -/
def accT (h : Vec F S256x2048 .bf16) (w : Vec F S2048x512 .bf16) (b : Vec F S1x512 .f32) : FVec F S256x512 .f32 :=
  k0_pay15 h w b

/-- The queries' last step, as printed: the scale, then the narrowing. -/
def scaleT (a : FVec F S256x512 .f32) : FVec F S256x512 .bf16 :=
  truncf .bf16 (mulf a (broadcast S256x512 (Named.named κ "scale" 0x3E38AA3B#32))) bitsLt_bf16_f32
/-- The keys' and values' last step. -/
def narrowT (a : FVec F S256x512 .f32) : FVec F S256x512 .bf16 := truncf .bf16 a bitsLt_bf16_f32
/-- The gates' last step. -/
def gateT (a : FVec F S256x512 .f32) : FVec F S256x512 .bf16 := truncf .bf16 (logistic a) bitsLt_bf16_f32

/-- A result's block: at row `r` and column `q` of the block, the product of the row's half with the chunk of weight columns
    at `base` and the column's own chunk, its last step applied. -/
def outBlock {n : Nat} {e : EltTy} (post : FVec F S256x512 .f32 → Vec F S256x512 e) (h : Nat → Vec F S256x2048 .bf16)
    (w : Nat → Vec F S2048x512 .bf16) (b : Nat → Vec F S1x512 .f32) (base : Nat) : (⟨2, ![512, n]⟩ : Shape).Idx → Elt F e := fun y =>
  post (accT (h ((y 0).val / 256)) (w (base + (y 1).val / 512 * 512)) (b (base + (y 1).val / 512 * 512)))
    (ix2 ⟨(y 0).val % 256, Nat.mod_lt _ (by decide)⟩ ⟨(y 1).val % 512, Nat.mod_lt _ (by decide)⟩)

/-- The block over one stored piece. -/
theorem outBlock_emb {n : Nat} {e : EltTy} (post : FVec F S256x512 .f32 → Vec F S256x512 e) (h : Nat → Vec F S256x2048 .bf16)
    (w : Nat → Vec F S2048x512 .bf16) (b : Nat → Vec F S1x512 .f32) (base : Nat) {a d : Nat} (ha : a % 256 = 0) (hd : d % 512 = 0)
    (inb) (x : (Rect.unit (s := (⟨2, ![512, n]⟩ : Shape)) ![a, d] ![256, 512] inb).shape.Idx) :
    outBlock post h w b base ((Rect.unit (s := (⟨2, ![512, n]⟩ : Shape)) ![a, d] ![256, 512] inb).emb x)
      = post (accT (h (a / 256)) (w (base + d)) (b (base + d))) x := by
  have x0lt : (x 0).val < 256 := (x 0).isLt
  have x1lt : (x 1).val < 512 := (x 1).isLt
  have key (y : (⟨2, ![512, n]⟩ : Shape).Idx) (h0 : (y 0).val = a + (x 0).val) (h1 : (y 1).val = d + (x 1).val) :
      outBlock post h w b base y = post (accT (h (a / 256)) (w (base + d)) (b (base + d))) (ix2 ⟨(x 0).val, x0lt⟩ ⟨(x 1).val, x1lt⟩) := by
    unfold outBlock
    have e0 : (y 0).val / 256 = a / 256 := by omega
    have e1 : (y 1).val / 512 * 512 = d := by omega
    have e2 : (y 0).val % 256 = (x 0).val := by omega
    have e3 : (y 1).val % 512 = (x 1).val := by omega
    simp only [e0, e1, e2, e3]
  rw [key _ (ValueKit.rect_emb_unit_val _ _ inb x 0) (ValueKit.rect_emb_unit_val _ _ inb x 1)]
  refine congrArg _ (funext fun k => ?_)
  match k with
  | ⟨0, _⟩ => rfl
  | ⟨1, _⟩ => rfl

theorem read2 {sp : Space} {e : EltTy} {s0 s1 t0 t1 o0 o1 : Nat} (arg : Memref sig .tc sp ⟨2, ![s0, s1]⟩ e) (harg : arg.IsWhole)
    (x : (⟨2, ![s0, s1]⟩ : Shape).Idx → Elt F e) (inb) (g : (⟨2, ![t0, t1]⟩ : Shape).Idx → Elt F e)
    (hg : ∀ y : (⟨2, ![t0, t1]⟩ : Shape).Idx, ∀ z : (⟨2, ![s0, s1]⟩ : Shape).Idx, (z 0).val = o0 + (y 0).val → (z 1).val = o1 + (y 1).val → x z = g y) :
    View.readAt (Elt F) arg.view (Rect.unit (s := (⟨2, ![s0, s1]⟩ : Shape)) ![o0, o1] ![t0, t1] inb).toLoadRect (harg.unread x) = g := by
  funext y
  rw [harg.readAt_unread]
  exact hg y _ (ValueKit.rect_emb_unit_val _ _ inb y 0) (ValueKit.rect_emb_unit_val _ _ inb y 1)

theorem idx2_ext {n0 n1 : Nat} {y z : (⟨2, ![n0, n1]⟩ : Shape).Idx} (h0 : (y 0).val = (z 0).val) (h1 : (y 1).val = (z 1).val) : y = z :=
  funext fun k => match k with
  | ⟨0, _⟩ => Fin.ext h0
  | ⟨1, _⟩ => Fin.ext h1

theorem read3 {sp : Space} {e : EltTy} (arg : Memref sig .tc sp S1x1x2048 e) (harg : arg.IsWhole)
    (x : S1x1x2048.Idx → Elt F e) (inb) :
    View.readAt (Elt F) arg.view (Rect.unit (s := S1x1x2048) ![0, 0, 0] S1x1x2048.size inb).toLoadRect (harg.unread x) = x := by
  funext y
  rw [harg.readAt_unread]
  refine congrArg x (funext fun k => Fin.ext ?_)
  exact (ValueKit.rect_emb_unit_val _ _ inb y k).trans (by
    match k with
    | ⟨0, _⟩ => exact Nat.zero_add _
    | ⟨1, _⟩ => exact Nat.zero_add _
    | ⟨2, _⟩ => exact Nat.zero_add _)

theorem wColsRead {sp : Space} {n : Nat} (hn : 0 < n) (arg : Memref sig .tc sp ⟨2, ![2048, n]⟩ .bf16) (harg : arg.IsWhole)
    (w : (⟨2, ![2048, n]⟩ : Shape).Idx → Elt F .bf16) (d : Nat) (hd : d + 512 ≤ n) (inb) :
    View.readAt (Elt F) arg.view (Rect.unit (s := (⟨2, ![2048, n]⟩ : Shape)) ![0, d] ![2048, 512] inb).toLoadRect (harg.unread w) = wCols hn w d :=
  read2 arg harg w inb _ fun y z h0 h1 => congrArg w (idx2_ext (by simpa using h0) (by
    have : (y 1).val < 512 := (y 1).isLt
    show (z 1).val = (d + (y 1).val) % n
    rw [Nat.mod_eq_of_lt (by omega), h1]))

theorem bColsRead {sp : Space} (arg : Memref sig .tc sp S1x6144 .f32) (harg : arg.IsWhole) (b : Vec F S1x6144 .f32) (d : Nat)
    (hd : d + 512 ≤ 6144) (inb) :
    View.readAt (Elt F) arg.view (Rect.unit (s := S1x6144) ![0, d] ![1, 512] inb).toLoadRect (harg.unread b) = bCols b d :=
  read2 arg harg b inb _ fun y z h0 h1 => congrArg b (idx2_ext (by simpa using h0) (by
    have : (y 1).val < 512 := (y 1).isLt
    show (z 1).val = (d + (y 1).val) % 6144
    rw [Nat.mod_eq_of_lt (by omega), h1]))

theorem xSlabRead {sp : Space} (arg : Memref sig .tc sp S512x2048 .f32) (harg : arg.IsWhole) (x : Vec F S512x2048 .f32) (k : Nat) (hk : k < 2) (inb) :
    View.readAt (Elt F) arg.view (Rect.unit (s := S512x2048) ![256 * k, 0] ![256, 2048] inb).toLoadRect (harg.unread x) = xSlab x k :=
  read2 arg harg x inb _ fun y z h0 h1 => congrArg x (idx2_ext (by
    have : (y 0).val < 256 := (y 0).isLt
    show (z 0).val = (256 * k + (y 0).val) % 512
    rw [Nat.mod_eq_of_lt (by omega), h0]) (by simpa using h1))

theorem rowRead {sp : Space} (arg : Memref sig .tc sp S1x2048 .f32) (harg : arg.IsWhole) (x : Vec F S1x2048 .f32) (inb) :
    View.readAt (Elt F) arg.view (Rect.unit (s := S1x2048) ![0, 0] ![1, 2048] inb).toLoadRect (harg.unread x) = x :=
  read2 arg harg x inb _ fun y z h0 h1 => congrArg x (idx2_ext (by simpa using h0) (by simpa using h1))

/-- Every piece stored into the buffer of normalised rows is those rows. -/
theorem h_pieces (c : Dev nD) (arg1 : Memref sig .tc .vmem S512x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole)
    (x0 : Vec F S512x2048 .f32) (x1 : Vec F S1x2048 .f32) (x2 : Vec F S1x1x2048 .f32) (x3 : Vec F S1x1x2048 .f32) :
    ∀ p ∈ kernelRun0_A.sl.HS0_2 c arg1 harg1 arg2 harg2 arg3 harg3 arg4 harg4 x0 x1 x2 x3, ∀ x : p.1.shape.Idx, p.2 x = hBlock x0 x1 x2 x3 (p.1.emb x) := by
  have emb_ (a : Nat) (ha : a = 256 * (a / 256) ∧ a / 256 < 2) (inb) (x : (Rect.unit (s := S512x2048) ![a, 0] ![256, 2048] inb).shape.Idx) :
      hBlock x0 x1 x2 x3 ((Rect.unit (s := S512x2048) ![a, 0] ![256, 2048] inb).emb x) = hSlab x0 x1 x2 x3 (a / 256) x := by
    have x0lt : (x 0).val < 256 := (x 0).isLt
    have e0 : (((Rect.unit (s := S512x2048) ![a, 0] ![256, 2048] inb).emb x) 0).val = a + (x 0).val := ValueKit.rect_emb_unit_val _ _ inb x 0
    have e1 : (((Rect.unit (s := S512x2048) ![a, 0] ![256, 2048] inb).emb x) 1).val = 0 + (x 1).val := ValueKit.rect_emb_unit_val _ _ inb x 1
    unfold hBlock
    rw [show (((Rect.unit (s := S512x2048) ![a, 0] ![256, 2048] inb).emb x) 0).val / 256 = a / 256 by omega]
    exact congrArg (hSlab x0 x1 x2 x3 (a / 256)) (idx2_ext (n0 := 256) (n1 := 2048) (show _ % 256 = (x 0).val by omega) (e1.trans (Nat.zero_add _)))
  have one (a : Nat) (ha : a = 256 * (a / 256) ∧ a / 256 < 2) (inb)
      (P : (Rect.unit (s := S512x2048) ![a, 0] ![256, 2048] inb).shape.Idx → Elt F .bf16)
      (hP : P = k0_pay8 (View.readAt (Elt F) arg2.view (Rect.unit (s := S1x2048) ![0, 0] ![1, 2048] inb_S1x2048_S1x2048_0_0).toLoadRect (harg2.unread x1))
        (View.readAt (Elt F) arg3.view (Rect.unit (s := S1x1x2048) ![0, 0, 0] S1x1x2048.size inb_S1x1x2048_S1x1x2048_0_0_0).toLoadRect (harg3.unread x2))
        (View.readAt (Elt F) arg4.view (Rect.unit (s := S1x1x2048) ![0, 0, 0] S1x1x2048.size inb_S1x1x2048_S1x1x2048_0_0_0).toLoadRect (harg4.unread x3))
        (View.readAt (Elt F) arg1.view (Rect.unit (s := S512x2048) ![256 * (a / 256), 0] ![256, 2048] (inb2 (by omega) (by omega))).toLoadRect (harg1.unread x0)))
      (x : (Rect.unit (s := S512x2048) ![a, 0] ![256, 2048] inb).shape.Idx) :
      P x = hBlock x0 x1 x2 x3 ((Rect.unit (s := S512x2048) ![a, 0] ![256, 2048] inb).emb x) := by
    refine (congrFun hP x).trans (Eq.trans (congrFun ?_ x) (emb_ a ha inb x).symm)
    rw [rowRead, read3, read3, xSlabRead _ _ _ _ ha.2]
    rfl
  unfold kernelRun0_A.sl.HS0_2
  refine List.forall_mem_cons.mpr ⟨?_, List.forall_mem_cons.mpr ⟨?_, fun p hp => absurd hp List.not_mem_nil⟩⟩
  all_goals dsimp only
  · exact fun x => one 256 (by decide) inb_S512x2048_S256x2048_256_0 _ (by sl_kernel_rfl) x
  · exact fun x => one 0 (by decide) inb_S512x2048_S256x2048_0_0 _ (by sl_kernel_rfl) x

/-- A half of the buffer of normalised rows, read back. -/
theorem hRead (c : Dev nD) (arg1 : Memref sig .tc .vmem S512x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole) (arg15 : Memref sig .tc .vmem S512x2048 .bf16)
    (x0 : Vec F S512x2048 .f32) (x1 : Vec F S1x2048 .f32) (x2 : Vec F S1x1x2048 .f32) (x3 : Vec F S1x1x2048 .f32) (k : Nat) (hk : k < 2) (inb) :
    arg15.view.readCov (kernelRun0_A.sl.HS0_2 c arg1 harg1 arg2 harg2 arg3 harg3 arg4 harg4 x0 x1 x2 x3) (Rect.unit (s := S512x2048) ![256 * k, 0] ![256, 2048] inb).toLoadRect
      = hSlab x0 x1 x2 x3 k := by
  funext y
  have y0lt : (y 0).val < 256 := (y 0).isLt
  have e0 : (((Rect.unit (s := S512x2048) ![256 * k, 0] ![256, 2048] inb).emb y) 0).val = 256 * k + (y 0).val := ValueKit.rect_emb_unit_val _ _ inb y 0
  have e1 : (((Rect.unit (s := S512x2048) ![256 * k, 0] ![256, 2048] inb).emb y) 1).val = 0 + (y 1).val := ValueKit.rect_emb_unit_val _ _ inb y 1
  refine (View.read_writes_apply_of_pieces arg15.view arg15.view.junk (hBlock x0 x1 x2 x3) _ (h_pieces c arg1 harg1 arg2 harg2 arg3 harg3 arg4 harg4 x0 x1 x2 x3)
    ((Rect.unit (s := S512x2048) ![256 * k, 0] ![256, 2048] inb).emb y) (View.cover_of_tiledL (kernelRun0_A.sl.HS0_2 c arg1 harg1 arg2 harg2 arg3 harg3 arg4 harg4 x0 x1 x2 x3) S256x2048.size (by sl_kernel_rfl) _)).trans ?_
  unfold hBlock
  rw [show (((Rect.unit (s := S512x2048) ![256 * k, 0] ![256, 2048] inb).emb y) 0).val / 256 = k by omega]
  exact congrArg (hSlab x0 x1 x2 x3 k) (idx2_ext (n0 := 256) (n1 := 2048) (show _ % 256 = (y 0).val by omega) (e1.trans (Nat.zero_add _)))

section
variable (c : Dev nD)
  (i : grid0.Coords)
  (arg1 : Memref sig .tc .vmem S512x2048 .f32)
  (harg1 : arg1.IsWhole)
  (arg2 : Memref sig .tc .vmem S1x2048 .f32)
  (harg2 : arg2.IsWhole)
  (arg3 : Memref sig .tc .vmem S1x1x2048 .f32)
  (harg3 : arg3.IsWhole)
  (arg4 : Memref sig .tc .vmem S1x1x2048 .f32)
  (harg4 : arg4.IsWhole)
  (arg5 : Memref sig .tc .vmem S2048x1024 .bf16)
  (harg5 : arg5.IsWhole)
  (arg6 : Memref sig .tc .vmem S2048x6144 .bf16)
  (harg6 : arg6.IsWhole)
  (arg7 : Memref sig .tc .vmem S1x6144 .f32)
  (harg7 : arg7.IsWhole)
  (arg8 : Memref sig .tc .vmem S64x2048 .f32)
  (harg8 : arg8.IsWhole)
  (arg9 : Memref sig .tc .vmem S512x1024 .bf16)
  (harg9 : arg9.IsWhole)
  (arg10 : Memref sig .tc .vmem S512x512 .bf16)
  (harg10 : arg10.IsWhole)
  (arg11 : Memref sig .tc .vmem S512x512 .f32)
  (harg11 : arg11.IsWhole)
  (arg12 : Memref sig .tc .vmem S512x2048 .bf16)
  (harg12 : arg12.IsWhole)
  (arg13 : Memref sig .tc .vmem S512x2048 .bf16)
  (harg13 : arg13.IsWhole)
  (arg14 : Memref sig .tc .vmem S64x2048 .bf16)
  (harg14 : arg14.IsWhole)
  (arg15 : Memref sig .tc .vmem S512x2048 .bf16)
  (harg15 : arg15.IsWhole)
  (x0 : Vec F S512x2048 .f32) (x1 : Vec F S1x2048 .f32) (x2 : Vec F S1x1x2048 .f32) (x3 : Vec F S1x1x2048 .f32) (x4 : Vec F S2048x1024 .bf16) (x5 : Vec F S2048x6144 .bf16) (x6 : Vec F S1x6144 .f32) (x7 : Vec F S64x2048 .f32)

/-- One stored piece of the queries: its weights are the queries' own array. -/
theorem pieceQ (a d : Nat) (ha : a = 256 * (a / 256) ∧ a / 256 < 2) (hd : d % 512 = 0 ∧ d + 512 ≤ 1024) (inb)
    (P : (Rect.unit (s := S512x1024) ![a, d] ![256, 512] inb).shape.Idx → Elt F .bf16)
    (hP : P = scaleT (accT
      (arg15.view.readCov (kernelRun0_A.sl.HS0_2 c arg1 harg1 arg2 harg2 arg3 harg3 arg4 harg4 x0 x1 x2 x3) (Rect.unit (s := S512x2048) ![256 * (a / 256), 0] ![256, 2048] (inb2 (by omega) (by omega))).toLoadRect)
      (View.readAt (Elt F) arg5.view (Rect.unit (s := S2048x1024) ![0, d] ![2048, 512] (inb2 (by omega) (by omega))).toLoadRect (harg5.unread x4))
      (View.readAt (Elt F) arg7.view (Rect.unit (s := S1x6144) ![0, 0 + d] ![1, 512] (inb2 (by omega) (by omega))).toLoadRect (harg7.unread x6))))
    (x : (Rect.unit (s := S512x1024) ![a, d] ![256, 512] inb).shape.Idx) :
    P x = outBlock (n := 1024) scaleT (hSlab x0 x1 x2 x3) (wCols (by decide) x4) (bCols x6) 0 ((Rect.unit (s := S512x1024) ![a, d] ![256, 512] inb).emb x) := by
  refine (congrFun hP x).trans (Eq.trans (congrFun ?_ x) (outBlock_emb (n := 1024) (e := .bf16) scaleT (hSlab x0 x1 x2 x3) (wCols (by decide) x4) (bCols x6) 0 (by omega) hd.1 inb x).symm)
  rw [hRead _ _ _ _ _ _ _ _ _ _ _ _ _ _ _ ha.2, wColsRead (n := 1024) (by decide) _ _ _ _ hd.2, bColsRead _ _ _ _ (by omega), Nat.zero_add]

/-- One stored piece of another result. -/
theorem pieceR {n : Nat} {e : EltTy} (post : FVec F S256x512 .f32 → Vec F S256x512 e) (base a d : Nat) (ha : a = 256 * (a / 256) ∧ a / 256 < 2) (hd : d % 512 = 0 ∧ base + d + 512 ≤ 6144) (inb)
    (P : (Rect.unit (s := (⟨2, ![512, n]⟩ : Shape)) ![a, d] ![256, 512] inb).shape.Idx → Elt F e)
    (hP : P = post (accT
      (arg15.view.readCov (kernelRun0_A.sl.HS0_2 c arg1 harg1 arg2 harg2 arg3 harg3 arg4 harg4 x0 x1 x2 x3) (Rect.unit (s := S512x2048) ![256 * (a / 256), 0] ![256, 2048] (inb2 (by omega) (by omega))).toLoadRect)
      (View.readAt (Elt F) arg6.view (Rect.unit (s := S2048x6144) ![0, base + d] ![2048, 512] (inb2 (by omega) (by omega))).toLoadRect (harg6.unread x5))
      (View.readAt (Elt F) arg7.view (Rect.unit (s := S1x6144) ![0, base + d] ![1, 512] (inb2 (by omega) (by omega))).toLoadRect (harg7.unread x6))))
    (x : (Rect.unit (s := (⟨2, ![512, n]⟩ : Shape)) ![a, d] ![256, 512] inb).shape.Idx) :
    P x = outBlock (n := n) post (hSlab x0 x1 x2 x3) (wCols (by decide) x5) (bCols x6) base ((Rect.unit (s := (⟨2, ![512, n]⟩ : Shape)) ![a, d] ![256, 512] inb).emb x) := by
  refine (congrFun hP x).trans (Eq.trans (congrFun ?_ x) (outBlock_emb _ _ _ _ _ (by omega) hd.1 inb x).symm)
  rw [hRead _ _ _ _ _ _ _ _ _ _ _ _ _ _ _ ha.2, wColsRead (n := 6144) (by decide) _ _ _ _ hd.2, bColsRead _ _ _ _ hd.2]

/-- The queries' block. -/
theorem out8 : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
    = outBlock (n := 1024) scaleT (hSlab x0 x1 x2 x3) (wCols (by decide) x4) (bCols x6) 0 := by
  funext y
  refine View.read_writes_apply_of_pieces _ _ _ _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  repeat' refine List.forall_mem_cons.mpr ⟨?_, ?_⟩
  all_goals try dsimp only
  all_goals first
    | exact fun x => pieceQ c arg1 harg1 arg2 harg2 arg3 harg3 arg4 harg4 arg5 harg5 arg7 harg7 arg15 x0 x1 x2 x3 x4 x6 _ _ (by decide) (by decide) _ _ (by sl_kernel_rfl) x
    | exact fun p hp => absurd hp List.not_mem_nil

/-- The keys and values' block. -/
theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
    = outBlock (n := 512) narrowT (hSlab x0 x1 x2 x3) (wCols (by decide) x5) (bCols x6) 1024 := by
  funext y
  refine View.read_writes_apply_of_pieces _ _ _ _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  repeat' refine List.forall_mem_cons.mpr ⟨?_, ?_⟩
  all_goals try dsimp only
  all_goals first
    | exact fun x => pieceR c arg1 harg1 arg2 harg2 arg3 harg3 arg4 harg4 arg6 harg6 arg7 harg7 arg15 x0 x1 x2 x3 x5 x6 (n := 512) (e := .bf16) narrowT 1024 _ _ (by decide) (by decide) _ _ (by sl_kernel_rfl) x
    | exact fun p hp => absurd hp List.not_mem_nil

/-- The recurrence inputs' block. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
    = outBlock (n := 512) (id : FVec F S256x512 .f32 → Vec F S256x512 .f32) (hSlab x0 x1 x2 x3) (wCols (by decide) x5) (bCols x6) 1536 := by
  funext y
  refine View.read_writes_apply_of_pieces _ _ _ _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  repeat' refine List.forall_mem_cons.mpr ⟨?_, ?_⟩
  all_goals try dsimp only
  all_goals first
    | exact fun x => pieceR c arg1 harg1 arg2 harg2 arg3 harg3 arg4 harg4 arg6 harg6 arg7 harg7 arg15 x0 x1 x2 x3 x5 x6 (n := 512) (e := .f32) id 1536 _ _ (by decide) (by decide) _ _ (by sl_kernel_rfl) x
    | exact fun p hp => absurd hp List.not_mem_nil

/-- The first gates' block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
    = outBlock (n := 2048) gateT (hSlab x0 x1 x2 x3) (wCols (by decide) x5) (bCols x6) 2048 := by
  funext y
  refine View.read_writes_apply_of_pieces _ _ _ _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  repeat' refine List.forall_mem_cons.mpr ⟨?_, ?_⟩
  all_goals try dsimp only
  all_goals first
    | exact fun x => pieceR c arg1 harg1 arg2 harg2 arg3 harg3 arg4 harg4 arg6 harg6 arg7 harg7 arg15 x0 x1 x2 x3 x5 x6 (n := 2048) (e := .bf16) gateT 2048 _ _ (by decide) (by decide) _ _ (by sl_kernel_rfl) x
    | exact fun p hp => absurd hp List.not_mem_nil

/-- The second gates' block. -/
theorem out12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
    = outBlock (n := 2048) gateT (hSlab x0 x1 x2 x3) (wCols (by decide) x5) (bCols x6) 4096 := by
  funext y
  refine View.read_writes_apply_of_pieces _ _ _ _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  repeat' refine List.forall_mem_cons.mpr ⟨?_, ?_⟩
  all_goals try dsimp only
  all_goals first
    | exact fun x => pieceR c arg1 harg1 arg2 harg2 arg3 harg3 arg4 harg4 arg6 harg6 arg7 harg7 arg15 x0 x1 x2 x3 x5 x6 (n := 2048) (e := .bf16) gateT 4096 _ _ (by decide) (by decide) _ _ (by sl_kernel_rfl) x
    | exact fun p hp => absurd hp List.not_mem_nil

/-- The narrowed rows of the output weights. -/
theorem out13 : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
    = k0_pay4 x7 := by
  funext y
  refine View.read_writes_apply_of_pieces _ _ _ _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y)
  unfold kernelRun0_A
  dsimp only
  refine List.forall_mem_cons.mpr ⟨?_, fun p hp => absurd hp List.not_mem_nil⟩
  dsimp only
  intro x
  have e1 : View.readAt (Elt F) arg8.view (Rect.unit (s := S64x2048) ![0, 0] ![64, 2048] inb_S64x2048_S64x2048_0_0).toLoadRect (harg8.unread x7) = x7 :=
    read2 arg8 harg8 x7 _ _ fun y z h0 h1 => congrArg x7 (idx2_ext (by simpa using h0) (by simpa using h1))
  refine (congrFun (congrArg k0_pay4 e1) x).trans (congrArg (k0_pay4 x7) ?_)
  exact (idx2_ext (n0 := 64) (n1 := 2048) ((ValueKit.rect_emb_unit_val _ _ inb_S64x2048_S64x2048_0_0 x 0).trans (Nat.zero_add _)) ((ValueKit.rect_emb_unit_val _ _ inb_S64x2048_S64x2048_0_0 x 1).trans (Nat.zero_add _))).symm

end

end Cert.InprojIdeal.Blocks
end
-- ==== Proof.Inproj.Elements.lean ====
/- The input projection's printed operations and the reference's, read at one element over the extended reals. -/
module

public import proofs.«01_k».proof.Proof.Inproj.Blocks
public import proofs.«01_k».proof.Proof.Gen.InprojReferenceIdeal.Read
public import Idealize.ShloMosaic.Lib.Claim

@[expose] public section

set_option maxRecDepth 16384

noncomputable section

namespace Cert.InprojIdeal.Elements

open Cert.InprojIdeal Cert.InprojIdeal.Gen Cert.InprojIdeal.Blocks
open Idealize.ShloMosaic Idealize.ShloMosaic.TcCoe Idealize.ShloMosaic.Tactic Idealize.SL.Sem

/-- One element of the normalised, modulated rows. -/
def normEl (x : Fin 2048 → EReal) (g sc sh : Fin 2048 → EReal) (q : Fin 2048) : EReal :=
  x q * Ideal.rsqrt (Ideal.div (∑ k, x k * x k) (Ideal.ofBits FTy.f32 0x45000000#32) + Ideal.ofBits FTy.f32 0x358637BD#32) * g q
    * (1 + sc q) + sh q

/-- One element of the projection. -/
def projEl (x g sc sh w : Fin 2048 → EReal) (b : EReal) : EReal := (∑ k, normEl x g sc sh k * w k) + b

theorem acc_apply (h : Vec Ideal S256x2048 .bf16) (w : Vec Ideal S2048x512 .bf16) (b : Vec Ideal S1x512 .f32) (r : Fin 256) (q : Fin 512) :
    accT h w b (ix2 r q) = (∑ k : Fin 2048, h (ix2 r k) * w (ix2 k q)) + b (ix2 0 q) := by
  pointwise [accT, k0_pay15]

theorem slab_apply (x0 : Vec Ideal S512x2048 .f32) (x1 : Vec Ideal S1x2048 .f32) (x2 x3 : Vec Ideal S1x1x2048 .f32) (k : Nat) (r : Fin 256) (q : Fin 2048) :
    hSlab x0 x1 x2 x3 k (ix2 r q)
      = normEl (fun q => xSlab x0 k (ix2 r q)) (fun q => x1 (ix2 0 q)) (fun q => x2 (ix3 0 0 q)) (fun q => x3 (ix3 0 0 q)) q := by
  pointwise [hSlab, k0_pay8, k0_pay5, k0_pay6, k0_pay7]
  rfl

section
open Cert.InprojReferenceIdeal.Read

variable (x0 : (⟨S4x4096x2048, .f32⟩ : BufTy).Contents (Elt Ideal)) (x1 : (⟨S2048, .f32⟩ : BufTy).Contents (Elt Ideal))
  (x2 x3 : (⟨S4x2048, .f32⟩ : BufTy).Contents (Elt Ideal)) (x4 : (⟨S2048x6144, .f32⟩ : BufTy).Contents (Elt Ideal))
  (x5 : (⟨S6144, .f32⟩ : BufTy).Contents (Elt Ideal))

/-- One element of the reference's projection. -/
def refEl (b : Fin 4) (s : Fin 4096) (q : Fin 6144) : EReal :=
  projEl (fun k => x0 (ix3 b s k)) (fun k => x1 (ix1 k)) (fun k => x2 (ix2 b k)) (fun k => x3 (ix2 b k)) (fun k => x4 (ix2 k q)) (x5 (ix1 q))

theorem refNorm_apply (b : Fin 4) (s : Fin 4096) (q : Fin 2048) :
    val_main_v20 (F := Ideal) x0 x1 x2 x3 (ix3 b s q)
      = normEl (fun k => x0 (ix3 b s k)) (fun k => x1 (ix1 k)) (fun k => x2 (ix2 b k)) (fun k => x3 (ix2 b k)) q := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem refProj_apply (b : Fin 4) (s : Fin 4096) (q : Fin 6144) :
    val_main_v24 (F := Ideal) x0 x1 x2 x3 x4 x5 (ix3 b s q) = refEl x0 x1 x2 x3 x4 x5 b s q := by
  pointwise [val_main_v24, val_main_v23, val_main_v22, val_main_v21]
  simp only [refNorm_apply]
  rfl

/-- A column of the paired order of the query heads, in the reference's order. -/
def pair (q : Fin 1024) : Fin 6144 :=
  ⟨q.val / 512 * 512 + q.val / 64 % 2 * 256 + q.val / 128 % 4 * 64 + q.val % 64, by omega⟩

/-- The first axis of the tokens, of a row of all of them. -/
def seqOf (R : Fin 16384) : Fin 4 := ⟨R.val / 4096, by omega⟩
/-- The second axis of the tokens, of a row of all of them. -/
def posOf (R : Fin 16384) : Fin 4096 := ⟨R.val % 4096, by omega⟩

theorem refQ_apply (R : Fin 16384) (q : Fin 1024) :
    val_main_v37 (F := Ideal) x0 x1 x2 x3 x4 x5 (ix2 R q)
      = Ideal.div (refEl x0 x1 x2 x3 x4 x5 (seqOf R) (posOf R) (pair q)) (Ideal.ofBits FTy.f32 0x41000000#32 * Ideal.log (Ideal.ofBits FTy.f32 0x40000000#32)) := by
  pointwise [val_main_v37, val_main_v36, val_main_v35, val_main_v34, val_main_v33, val_main_cst_3, val_main_cst_4, val_main_v32, val_main_v31, val_main_v30, val_main_v25]
  rw [refProj_apply]
  rfl

theorem refKv_apply (R : Fin 16384) (q : Fin 512) :
    val_main_v39 (F := Ideal) x0 x1 x2 x3 x4 x5 (ix2 R q) = refEl x0 x1 x2 x3 x4 x5 (seqOf R) (posOf R) ⟨1024 + q.val, by omega⟩ := by
  pointwise [val_main_v39, val_main_v38, val_main_v26]
  rw [refProj_apply]
  rfl

theorem refU_apply (R : Fin 16384) (q : Fin 512) :
    val_main_v40 (F := Ideal) x0 x1 x2 x3 x4 x5 (ix2 R q) = refEl x0 x1 x2 x3 x4 x5 (seqOf R) (posOf R) ⟨1536 + q.val, by omega⟩ := by
  pointwise [val_main_v40, val_main_v27]
  rw [refProj_apply]
  rfl

theorem refGa_apply (R : Fin 16384) (q : Fin 2048) :
    val_main_v48 (F := Ideal) x0 x1 x2 x3 x4 x5 (ix2 R q) = Ideal.logistic (refEl x0 x1 x2 x3 x4 x5 (seqOf R) (posOf R) ⟨2048 + q.val, by omega⟩) := by
  pointwise [val_main_v48, val_main_v47, val_main_v46, val_main_v45, val_main_v44, val_main_v43, val_main_v42, val_main_v41, val_main_v28, val_main_cst_5, val_main_cst_6]
  rw [refProj_apply]
  rfl

theorem refGs_apply (R : Fin 16384) (q : Fin 2048) :
    val_main_v56 (F := Ideal) x0 x1 x2 x3 x4 x5 (ix2 R q) = Ideal.logistic (refEl x0 x1 x2 x3 x4 x5 (seqOf R) (posOf R) ⟨4096 + q.val, by omega⟩) := by
  pointwise [val_main_v56, val_main_v55, val_main_v54, val_main_v53, val_main_v52, val_main_v51, val_main_v50, val_main_v49, val_main_v29, val_main_cst_7, val_main_cst_8]
  rw [refProj_apply]
  rfl
end

section
variable (m : (ℓ : Loc nD τ sig) → Buf (Elt Ideal) ℓ) (c : Dev nD) (t : Fin cfg0.N)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 8, 0, 0] := (by decide +kernel : ∀ t : Fin grid0.N, _)
theorem index3 : ∀ t : Fin cfg0.N, win0_3.index t = ![t.val / 8, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

/-- A row of a point's block, as a row of the whole array. -/
def rowOf (t : Fin cfg0.N) (r : Fin 512) : Fin 16384 := ⟨t.val * 512 + r.val, by have : t.val < 32 := t.isLt; omega⟩

/-- The point's rows of the tokens. -/
theorem block0 (r : Fin 512) (q : Fin 2048) :
    iblk m c 0 t (ix2 r q) = (m (c, Proc.tc.devRef main_arg0) : S4x4096x2048.Idx → EReal) (ix3 (seqOf (rowOf t r)) (posOf (rowOf t r)) q) := by
  have e : iblk m c 0 t (ix2 r q) = V m c main_v11 (ix2 (rowOf t r) q) := by
    blk_simp [iblk]
    exact congrArg _ (idx2_ext (n0 := 16384) (n1 := 2048) (by blk_simp [index0]; rfl) (by blk_simp [index0]))
  rw [e]
  entry_read
  pointwise []
  rfl

theorem block1 (q : Fin 2048) :
    iblk m c 1 t (ix2 0 q) = (m (c, Proc.tc.devRef main_arg1) : S2048.Idx → EReal) (ix1 q) := by
  have e : iblk m c 1 t (ix2 0 q) = V m c main_v12 (ix2 0 q) := by
    blk_simp [iblk]
    exact congrArg _ (idx2_ext (n0 := 1) (n1 := 2048) (by blk_simp [index1]) (by blk_simp [index1]))
  rw [e]
  entry_read
  pointwise []

theorem idx3_ext {n0 n1 n2 : Nat} {y z : (⟨3, ![n0, n1, n2]⟩ : Shape).Idx} (h0 : (y 0).val = (z 0).val) (h1 : (y 1).val = (z 1).val)
    (h2 : (y 2).val = (z 2).val) : y = z :=
  funext fun k => match k with
  | ⟨0, _⟩ => Fin.ext h0
  | ⟨1, _⟩ => Fin.ext h1
  | ⟨2, _⟩ => Fin.ext h2

/-- The sequence a point works on. -/
def seqAt (t : Fin cfg0.N) : Fin 4 := ⟨t.val / 8, by have : t.val < 32 := t.isLt; omega⟩

theorem seqOf_rowOf (r : Fin 512) : seqOf (rowOf t r) = seqAt t :=
  Fin.ext (show (t.val * 512 + r.val) / 4096 = t.val / 8 by omega)

theorem block2 (q : Fin 2048) :
    iblk m c 2 t (ix3 0 0 q) = (m (c, Proc.tc.devRef main_arg2) : S4x2048.Idx → EReal) (ix2 (seqAt t) q) := by
  have e : iblk m c 2 t (ix3 0 0 q) = V m c main_v13 (ix3 (seqAt t) 0 q) := by
    blk_simp [iblk]
    exact congrArg _ (idx3_ext (n0 := 4) (n1 := 1) (n2 := 2048) (by blk_simp [index2]; rfl) (by blk_simp [index2]) (by blk_simp [index2]))
  rw [e]
  entry_read
  pointwise []

theorem block3 (q : Fin 2048) :
    iblk m c 3 t (ix3 0 0 q) = (m (c, Proc.tc.devRef main_arg3) : S4x2048.Idx → EReal) (ix2 (seqAt t) q) := by
  have e : iblk m c 3 t (ix3 0 0 q) = V m c main_v14 (ix3 (seqAt t) 0 q) := by
    blk_simp [iblk]
    exact congrArg _ (idx3_ext (n0 := 4) (n1 := 1) (n2 := 2048) (by blk_simp [index3]; rfl) (by blk_simp [index3]) (by blk_simp [index3]))
  rw [e]
  entry_read
  pointwise []

theorem block4 (k : Fin 2048) (q : Fin 1024) :
    iblk m c 4 t (ix2 k q) = (m (c, Proc.tc.devRef main_arg4) : S2048x6144.Idx → EReal) (ix2 k (pair q)) := by
  have e : iblk m c 4 t (ix2 k q) = V m c main_v4 (ix2 k q) := by
    blk_simp [iblk]
    exact congrArg _ (idx2_ext (n0 := 2048) (n1 := 1024) (by blk_simp [index4]) (by blk_simp [index4]))
  rw [e]
  entry_read
  pointwise []
  rfl

theorem block5 (k : Fin 2048) (q : Fin 6144) :
    iblk m c 5 t (ix2 k q) = (m (c, Proc.tc.devRef main_arg4) : S2048x6144.Idx → EReal) (ix2 k q) := by
  have e : iblk m c 5 t (ix2 k q) = V m c main_v0 (ix2 k q) := by
    blk_simp [iblk]
    exact congrArg _ (idx2_ext (n0 := 2048) (n1 := 6144) (by blk_simp [index5]) (by blk_simp [index5]))
  rw [e]
  entry_read
  pointwise []

theorem block6 (q : Fin 6144) :
    iblk m c 6 t (ix2 0 q) = if h : q.val < 1024 then (m (c, Proc.tc.devRef main_arg5) : S6144.Idx → EReal) (ix1 (pair ⟨q.val, h⟩))
      else (m (c, Proc.tc.devRef main_arg5) : S6144.Idx → EReal) (ix1 q) := by
  have e : iblk m c 6 t (ix2 0 q) = V m c main_v15 (ix2 0 q) := by
    blk_simp [iblk]
    exact congrArg _ (idx2_ext (n0 := 1) (n1 := 6144) (by blk_simp [index6]) (by blk_simp [index6]))
  rw [e]
  entry_read
  pointwise []
  split
  · rfl
  · exact congrArg (fun i => (m (c, Proc.tc.devRef main_arg5) : S6144.Idx → EReal) (ix1 i)) (Fin.ext (show 1024 + (q.val - 1024) = q.val by omega))

/-- The rows of the output weights that a point narrows. -/
theorem block7 (r : Fin 64) (q : Fin 2048) :
    iblk m c 7 t (ix2 r q) = (m (c, Proc.tc.devRef main_arg6) : S2048x2048.Idx → EReal) (ix2 ⟨t.val * 64 + r.val, by have : t.val < 32 := t.isLt; omega⟩ q) := by
  have e : iblk m c 7 t (ix2 r q) = V m c main_arg6 (ix2 ⟨t.val * 64 + r.val, by have : t.val < 32 := t.isLt; omega⟩ q) := by
    blk_simp [iblk]
    exact congrArg _ (idx2_ext (n0 := 2048) (n1 := 2048) (by blk_simp [index7]) (by blk_simp [index7]))
  rw [e]
  entry_read
  rfl

/-- The projection's element over a point's blocks. -/
theorem proj_apply (Y : Fin 512) (w : Vec Ideal S2048x512 .bf16) (b : Vec Ideal S1x512 .f32) (j : Fin 512) (q : Fin 6144)
    (hw : ∀ k, w (ix2 k j) = (m (c, Proc.tc.devRef main_arg4) : S2048x6144.Idx → EReal) (ix2 k q))
    (hb : b (ix2 0 j) = (m (c, Proc.tc.devRef main_arg5) : S6144.Idx → EReal) (ix1 q)) :
    accT (hSlab (iblk m c 0 t) (iblk m c 1 t) (iblk m c 2 t) (iblk m c 3 t) (Y.val / 256)) w b (ix2 ⟨Y.val % 256, Nat.mod_lt _ (by decide)⟩ j)
      = refEl (m (c, Proc.tc.devRef main_arg0)) (m (c, Proc.tc.devRef main_arg1)) (m (c, Proc.tc.devRef main_arg2)) (m (c, Proc.tc.devRef main_arg3))
          (m (c, Proc.tc.devRef main_arg4)) (m (c, Proc.tc.devRef main_arg5)) (seqOf (rowOf t Y)) (posOf (rowOf t Y)) q := by
  rw [acc_apply]
  unfold refEl projEl
  refine congrArg₂ (· + ·) (Finset.sum_congr rfl fun k _ => congrArg₂ (· * ·) ?_ (hw k)) hb
  rw [slab_apply]
  have hx : (fun q => xSlab (iblk m c 0 t) (Y.val / 256) (ix2 ⟨Y.val % 256, Nat.mod_lt _ (by decide)⟩ q))
      = fun k => (m (c, Proc.tc.devRef main_arg0) : S4x4096x2048.Idx → EReal) (ix3 (seqOf (rowOf t Y)) (posOf (rowOf t Y)) k) := funext fun q =>
    (congrArg (fun i => iblk m c 0 t (ix2 i q)) (Fin.ext (show (256 * (Y.val / 256) + Y.val % 256) % 512 = Y.val by omega))).trans (block0 m c t Y q)
  rw [hx, funext (block1 m c t), funext (block2 m c t), funext (block3 m c t), seqOf_rowOf]

end

theorem eight : Ideal.ofBits .f32 0x41000000#32 = ((8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- Multiplying by the named scale is dividing by eight times the logarithm of two. -/
theorem scale_eq (a : EReal) :
    a * Named.named (F := Ideal) κ "scale" (φ := .f32) 0x3E38AA3B#32
      = Ideal.div a (Ideal.ofBits .f32 0x41000000#32 * Ideal.log (Ideal.ofBits .f32 0x40000000#32)) := by
  have h2 : (0 : ℝ) < Real.log 2 := Real.log_pos (by norm_num)
  rw [eight, two, Ideal.log_coe, if_neg (by norm_num), ← EReal.coe_mul, Ideal.div_coe (mul_ne_zero (by norm_num) h2.ne'),
    IdealRules.named_const.ideal_named_scalar κ "scale" _ (((8 * (Real.log 2))⁻¹ : ℝ) : EReal) rfl, one_div]

variable (m : (ℓ : Loc nD τ sig) → Buf (Elt Ideal) ℓ) (c : Dev nD) (t : Fin cfg0.N)

theorem blockQ (Y : Fin 512) (Q : Fin 1024) :
    outBlock (n := 1024) scaleT (hSlab (iblk m c 0 t) (iblk m c 1 t) (iblk m c 2 t) (iblk m c 3 t)) (wCols (by decide) (iblk m c 4 t)) (bCols (iblk m c 6 t)) 0 (ix2 Y Q)
      = Cert.InprojReferenceIdeal.Read.val_main_v37 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) (ix2 (rowOf t Y) Q) := by
  refine Eq.trans ?_ (refQ_apply _ _ _ _ _ _ _ _).symm
  refine Eq.trans (scale_eq _) (congrArg (fun a => Ideal.div a _) (proj_apply m c t Y _ _ _ (pair Q) (fun k => ?_) ?_))
  · refine (congrArg (fun i => iblk m c 4 t (ix2 k i)) (Fin.ext ?_)).trans (block4 m c t k Q)
    show (0 + Q.val / 512 * 512 + Q.val % 512) % 1024 = Q.val
    omega
  · refine (congrArg (fun i => iblk m c 6 t (ix2 0 i)) (Fin.ext ?_)).trans ((block6 m c t ⟨Q.val, by omega⟩).trans (dif_pos Q.isLt))
    show (0 + Q.val / 512 * 512 + Q.val % 512) % 6144 = Q.val
    omega

/-- The same for the results whose weight columns keep their places. -/
theorem projR_apply {n : Nat} (Y : Fin 512) (Q : Fin n) (base : Nat) (h0 : 1024 ≤ base) (h1 : base + Q.val < 6144) (hd : base % 512 = 0) :
    accT (hSlab (iblk m c 0 t) (iblk m c 1 t) (iblk m c 2 t) (iblk m c 3 t) (Y.val / 256)) (wCols (n := 6144) (by decide) (iblk m c 5 t) (base + Q.val / 512 * 512))
        (bCols (iblk m c 6 t) (base + Q.val / 512 * 512)) (ix2 ⟨Y.val % 256, Nat.mod_lt _ (by decide)⟩ ⟨Q.val % 512, Nat.mod_lt _ (by decide)⟩)
      = refEl (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) (seqOf (rowOf t Y)) (posOf (rowOf t Y)) ⟨base + Q.val, h1⟩ := by
  refine proj_apply m c t Y _ _ _ ⟨base + Q.val, h1⟩ (fun k => ?_) ?_
  · refine (congrArg (fun i => iblk m c 5 t (ix2 k i)) (Fin.ext ?_)).trans (block5 m c t k ⟨base + Q.val, h1⟩)
    show (base + Q.val / 512 * 512 + Q.val % 512) % 6144 = base + Q.val
    omega
  · refine (congrArg (fun i => iblk m c 6 t (ix2 0 i)) (Fin.ext ?_)).trans ((block6 m c t ⟨base + Q.val, h1⟩).trans (dif_neg (show ¬ base + Q.val < 1024 by omega)))
    show (base + Q.val / 512 * 512 + Q.val % 512) % 6144 = base + Q.val
    omega

theorem idx2_eta {n0 n1 : Nat} (y : (⟨2, ![n0, n1]⟩ : Shape).Idx) : y = ix2 (n0 := n0) (n1 := n1) (y 0) (y 1) := idx2_ext rfl rfl

theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)

theorem gateT_apply (a : FVec Ideal S256x512 .f32) (i : S256x512.Idx) : gateT a i = Ideal.logistic (a i) := rfl

/-- A gate's element over a point's blocks. -/
theorem gate_apply (Y : Fin 512) (Q : Fin 2048) (base : Nat) (h0 : 1024 ≤ base) (h1 : base + Q.val < 6144) (hd : base % 512 = 0) :
    outBlock (n := 2048) (e := .bf16) gateT (hSlab (iblk m c 0 t) (iblk m c 1 t) (iblk m c 2 t) (iblk m c 3 t)) (wCols (n := 6144) (by decide) (iblk m c 5 t)) (bCols (iblk m c 6 t)) base (ix2 Y Q)
      = Ideal.logistic (refEl (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) (seqOf (rowOf t Y)) (posOf (rowOf t Y)) ⟨base + Q.val, h1⟩) := by
  unfold outBlock
  rw [gateT_apply]
  exact congrArg Ideal.logistic (projR_apply m c t Y Q base h0 h1 hd)

/-- The queries, the whole array after the run: the reference's. -/
theorem arr8 : (dats m 0 c).arrAt 8 cfg0.N
    = (Cert.InprojReferenceIdeal.Read.val_main_v37 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) : S16384x1024.Idx → EReal) := by
  refine (dats m 0 c).arrAt_eq_of_covers 8 _ (by decide +kernel) fun t hf y => ?_
  blk_simp
  rw [after0_8]
  unfold outsAt0
  dsimp only
  rw [out8]
  obtain ⟨Y, Q, rfl⟩ : ∃ (Y : Fin 512) (Q : Fin 1024), y = (ix2 Y Q : (⟨2, ![512, 1024]⟩ : Shape).Idx) := ⟨y 0, y 1, idx2_eta y⟩
  exact Eq.trans (blockQ m c t Y Q)
    (congrArg _ (idx2_ext (n0 := 16384) (n1 := 1024) (by blk_simp [index8]; rfl) (by blk_simp [index8])).symm)

/-- The keys and values, the whole array after the run: the reference's. -/
theorem arr9 : (dats m 0 c).arrAt 9 cfg0.N
    = (Cert.InprojReferenceIdeal.Read.val_main_v39 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) : S16384x512.Idx → EReal) := by
  refine (dats m 0 c).arrAt_eq_of_covers 9 _ (by decide +kernel) fun t hf y => ?_
  blk_simp
  rw [after0_9]
  unfold outsAt0
  dsimp only
  rw [out9]
  obtain ⟨Y, Q, rfl⟩ : ∃ (Y : Fin 512) (Q : Fin 512), y = (ix2 Y Q : (⟨2, ![512, 512]⟩ : Shape).Idx) := ⟨y 0, y 1, idx2_eta y⟩
  exact Eq.trans ((projR_apply m c t Y Q 1024 (by decide) (by omega) (by decide)).trans (refKv_apply _ _ _ _ _ _ (rowOf t Y) Q).symm)
    (congrArg _ (idx2_ext (n0 := 16384) (n1 := 512) (by blk_simp [index9]; rfl) (by blk_simp [index9])).symm)

/-- The recurrence's inputs, the whole array after the run: the reference's. -/
theorem arr10 : (dats m 0 c).arrAt 10 cfg0.N
    = (Cert.InprojReferenceIdeal.Read.val_main_v40 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) : S16384x512.Idx → EReal) := by
  refine (dats m 0 c).arrAt_eq_of_covers 10 _ (by decide +kernel) fun t hf y => ?_
  blk_simp
  rw [after0_10]
  unfold outsAt0
  dsimp only
  rw [out10]
  obtain ⟨Y, Q, rfl⟩ : ∃ (Y : Fin 512) (Q : Fin 512), y = (ix2 Y Q : (⟨2, ![512, 512]⟩ : Shape).Idx) := ⟨y 0, y 1, idx2_eta y⟩
  exact Eq.trans ((projR_apply m c t Y Q 1536 (by decide) (by omega) (by decide)).trans (refU_apply _ _ _ _ _ _ (rowOf t Y) Q).symm)
    (congrArg _ (idx2_ext (n0 := 16384) (n1 := 512) (by blk_simp [index10]; rfl) (by blk_simp [index10])).symm)

/-- The first gates, the whole array after the run: the reference's. -/
theorem arr11 : (dats m 0 c).arrAt 11 cfg0.N
    = (Cert.InprojReferenceIdeal.Read.val_main_v48 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) : S16384x2048.Idx → EReal) := by
  refine (dats m 0 c).arrAt_eq_of_covers 11 _ (by decide +kernel) fun t hf y => ?_
  blk_simp
  rw [after0_11]
  unfold outsAt0
  dsimp only
  rw [out11]
  obtain ⟨Y, Q, rfl⟩ : ∃ (Y : Fin 512) (Q : Fin 2048), y = (ix2 Y Q : (⟨2, ![512, 2048]⟩ : Shape).Idx) := ⟨y 0, y 1, idx2_eta y⟩
  exact Eq.trans ((gate_apply m c t Y Q 2048 (by decide) (by omega) (by decide)).trans (refGa_apply _ _ _ _ _ _ (rowOf t Y) Q).symm)
    (congrArg _ (idx2_ext (n0 := 16384) (n1 := 2048) (by blk_simp [index11]; rfl) (by blk_simp [index11])).symm)

/-- The second gates, the whole array after the run: the reference's. -/
theorem arr12 : (dats m 0 c).arrAt 12 cfg0.N
    = (Cert.InprojReferenceIdeal.Read.val_main_v56 (F := Ideal) (m (c, Proc.tc.devRef main_arg0)) (m (c, Proc.tc.devRef main_arg1)) (m (c, Proc.tc.devRef main_arg2))
          (m (c, Proc.tc.devRef main_arg3)) (m (c, Proc.tc.devRef main_arg4)) (m (c, Proc.tc.devRef main_arg5)) : S16384x2048.Idx → EReal) := by
  refine (dats m 0 c).arrAt_eq_of_covers 12 _ (by decide +kernel) fun t hf y => ?_
  blk_simp
  rw [after0_12]
  unfold outsAt0
  dsimp only
  rw [out12]
  obtain ⟨Y, Q, rfl⟩ : ∃ (Y : Fin 512) (Q : Fin 2048), y = (ix2 Y Q : (⟨2, ![512, 2048]⟩ : Shape).Idx) := ⟨y 0, y 1, idx2_eta y⟩
  exact Eq.trans ((gate_apply m c t Y Q 4096 (by decide) (by omega) (by decide)).trans (refGs_apply _ _ _ _ _ _ (rowOf t Y) Q).symm)
    (congrArg _ (idx2_ext (n0 := 16384) (n1 := 2048) (by blk_simp [index12]; rfl) (by blk_simp [index12])).symm)

/-- The narrowed output weights, the whole array after the run: the reference's. -/
theorem arr13 : (dats m 0 c).arrAt 13 cfg0.N
    = (Cert.InprojReferenceIdeal.Read.val_main_v57 (F := Ideal) (m (c, Proc.tc.devRef main_arg6)) : S2048x2048.Idx → EReal) := by
  refine (dats m 0 c).arrAt_eq_of_covers 13 _ (by decide +kernel) fun t hf y => ?_
  blk_simp
  rw [after0_13]
  unfold outsAt0
  dsimp only
  rw [out13]
  obtain ⟨Y, Q, rfl⟩ : ∃ (Y : Fin 64) (Q : Fin 2048), y = (ix2 Y Q : (⟨2, ![64, 2048]⟩ : Shape).Idx) := ⟨y 0, y 1, idx2_eta y⟩
  exact Eq.trans (block7 m c t Y Q)
    (congrArg (m (c, Proc.tc.devRef main_arg6) : S2048x2048.Idx → EReal) (idx2_ext (n0 := 2048) (n1 := 2048) (by blk_simp [index13]) (by blk_simp [index13])).symm)

end Cert.InprojIdeal.Elements
end
-- ==== Proof.lean ====
module

public import proofs.«01_k».proof.Defs
public import proofs.«01_k».proof.Proof.Attn.Frame
public import proofs.«01_k».proof.Proof.Attn.FrameIdeal
public import proofs.«01_k».proof.Proof.Attn.Value
public import proofs.«01_k».proof.Proof.Gen.ReferenceIdeal.Run
public import proofs.«01_k».proof.Proof.Ffn.Frame
public import proofs.«01_k».proof.Proof.Ffn.Value
public import proofs.«01_k».proof.Proof.Gen.FfnReferenceIdeal.Run
public import proofs.«01_k».proof.Proof.Gen.FfnReferenceIdeal.Read
public import proofs.«01_k».proof.Proof.Gen.Inproj.Frame
public import proofs.«01_k».proof.Proof.Inproj.Elements
public import proofs.«01_k».proof.Proof.Gen.InprojReferenceIdeal.Run
public import proofs.«01_k».proof.Proof.Gen.InprojReferenceIdeal.Read

@[expose] public section

noncomputable section

open Idealize.ShloMosaic Idealize.SL.Sem

namespace Cert.Proof

/-- The attention as printed runs, its arguments unchanged, every counter at zero. -/
theorem frame_kernel : Cert.quiescent_Kernel := fun m ρ _ => Cert.Kernel.Attn.frame m ρ

/-- So does its ideal program. -/
theorem frame_kernelIdeal : Cert.quiescent_KernelIdeal := fun m ρ _ => Cert.KernelIdeal.Attn.frame m ρ

/-- So does the attention's reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two under the precondition of the attention's value claim. -/
theorem frame_kernelIdeal_finite : Cert.quiescent_KernelIdeal_pre_finite (hPre_finite := Cert.Attention.preFacts) :=
  fun m ρ _ => Cert.KernelIdeal.Attn.frame m ρ

theorem frame_referenceIdeal_finite : Cert.quiescent_ReferenceIdeal_pre_finite (hPre_finite := Cert.Attention.preFacts) :=
  fun m ρ _ => frame_referenceIdeal m ρ trivial

/-- The input projection as printed runs, its arguments unchanged, every counter at zero. -/
theorem frame_inproj : Cert.quiescent_Inproj := fun m ρ _ => Cert.Inproj.Gen.frame m ρ

/-- So does its ideal program. -/
theorem frame_inprojIdeal : Cert.quiescent_InprojIdeal := fun m ρ _ => Cert.InprojIdeal.Gen.frame m ρ

/-- So does the input projection's reference. -/
theorem frame_inprojReferenceIdeal : Cert.quiescent_InprojReferenceIdeal := fun m ρ _ =>
  (θ_run Cert.InprojReferenceIdeal.defs _ _).mono
    (fun r h => ⟨fun c => (h c).2.2.2.2.2.2, sem_eq_zero_of_no_sems (by decide) r.2⟩)
    (Cert.InprojReferenceIdeal.Value.run (F := Ideal) m ρ)

/-- The feed-forward part as printed runs, its arguments unchanged, every counter at zero. -/
theorem frame_ffn : Cert.quiescent_Ffn := fun m ρ _ => Cert.Ffn.Run.frame m ρ

/-- So does its ideal program. -/
theorem frame_ffnIdeal : Cert.quiescent_FfnIdeal := fun m ρ _ => Cert.FfnIdeal.Run.frame m ρ

/-- So does the feed-forward part's reference. -/
theorem frame_ffnReferenceIdeal : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The attention's one named constant: the mask stands for −∞. -/
theorem preserves_kernel : Cert.preserves_Kernel_KernelIdeal :=
  IdealRules.named_const.statement Cert.KernelIdeal.κ "mask" .f32 0xF149F2CA#32 ⊥ rfl

/-- The input projection's one named constant: the queries' scale stands for 1 / (8 log 2). -/
theorem preserves_inproj : Cert.preserves_Inproj_InprojIdeal :=
  IdealRules.named_const.statement Cert.InprojIdeal.κ "scale" .f32 0x3E38AA3B#32 (((8 * (Real.log 2))⁻¹ : ℝ) : EReal) rfl

/-- Where the precondition holds, the attention's kernel leaves in its result the extended reals that its reference leaves. -/
theorem algebraic_attention : Cert.algebraic_KernelIdeal_ReferenceIdeal_pre_finite (hPre_finite := Cert.Attention.preFacts) := by
  intro m g m' g' hpre hargs
  have hR : ∀ c, Cert.KernelIdeal.Attn.Reals m c := fun c =>
    Cert.Attention.real_of_finite (hF := Cert.Attention.preFacts) _ _ _ _ (hpre c)
  refine ⟨fun c => Cert.ReferenceIdeal.Stages.resultR (F := Ideal) (Cert.KernelIdeal.Attn.A0 m c) (Cert.KernelIdeal.Attn.A1 m c)
    (Cert.KernelIdeal.Attn.A2 m c) (Cert.KernelIdeal.Attn.A3 m c), Cert.KernelIdeal.Attn.run_result m g hR, ?_⟩
  refine (θ_run Cert.ReferenceIdeal.defs _ _).mono (fun r h c => ?_) (Cert.ReferenceIdeal.Value.run (F := Ideal) m' g')
  obtain ⟨a0, a1, a2, a3⟩ := hargs c
  exact ⟨(h c).1.trans ((Cert.ReferenceIdeal.Stages.res_eq m' c).trans (by rw [a0, a1, a2, a3])), (h c).2⟩

/-- The input projection's kernel leaves in every result the extended reals that its reference leaves. -/
theorem algebraic_inproj : Cert.algebraic_InprojIdeal_InprojReferenceIdeal := by
  intro m g m' g' _ hargs
  refine ⟨fun c => Cert.InprojReferenceIdeal.Read.val_main_v37 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)),
    fun c => Cert.InprojReferenceIdeal.Read.val_main_v39 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)),
    fun c => Cert.InprojReferenceIdeal.Read.val_main_v40 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)),
    fun c => Cert.InprojReferenceIdeal.Read.val_main_v48 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)),
    fun c => Cert.InprojReferenceIdeal.Read.val_main_v56 (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)),
    fun c => Cert.InprojReferenceIdeal.Read.val_main_v57 (F := Ideal) (m ((c.tc : Thread Cert.InprojIdeal.nD Cert.InprojIdeal.τ).loc Cert.InprojIdeal.main_arg6)), ?_, ?_⟩
  · exact (θ_run Cert.InprojIdeal.defs _ _).mono (fun r h c => ⟨(h c).1.trans (Cert.InprojIdeal.Elements.arr8 m c), (h c).2.1.trans (Cert.InprojIdeal.Elements.arr9 m c), (h c).2.2.1.trans (Cert.InprojIdeal.Elements.arr10 m c), (h c).2.2.2.1.trans (Cert.InprojIdeal.Elements.arr11 m c), (h c).2.2.2.2.1.trans (Cert.InprojIdeal.Elements.arr12 m c), (h c).2.2.2.2.2.1.trans (Cert.InprojIdeal.Elements.arr13 m c), (h c).2.2.2.2.2.2⟩)
      (Cert.InprojIdeal.Value.run_blocks (F := Ideal) m g)
  · refine (θ_run Cert.InprojReferenceIdeal.defs _ _).mono (fun r h c => ?_) (Cert.InprojReferenceIdeal.Value.run (F := Ideal) m' g')
    obtain ⟨a0, a1, a2, a3, a4, a5, a6⟩ := hargs c
    exact ⟨(h c).1.trans ((Cert.InprojReferenceIdeal.Read.val_main_v37_eq _ _ _ _ _ _).trans (by rw [a0, a1, a2, a3, a4, a5])),
      (h c).2.1.trans ((Cert.InprojReferenceIdeal.Read.val_main_v39_eq _ _ _ _ _ _).trans (by rw [a0, a1, a2, a3, a4, a5])),
      (h c).2.2.1.trans ((Cert.InprojReferenceIdeal.Read.val_main_v40_eq _ _ _ _ _ _).trans (by rw [a0, a1, a2, a3, a4, a5])),
      (h c).2.2.2.1.trans ((Cert.InprojReferenceIdeal.Read.val_main_v48_eq _ _ _ _ _ _).trans (by rw [a0, a1, a2, a3, a4, a5])),
      (h c).2.2.2.2.1.trans ((Cert.InprojReferenceIdeal.Read.val_main_v56_eq _ _ _ _ _ _).trans (by rw [a0, a1, a2, a3, a4, a5])),
      (h c).2.2.2.2.2.1.trans ((Cert.InprojReferenceIdeal.Read.val_main_v57_eq _).trans (by rw [a6])),
      (h c).2.2.2.2.2.2⟩

/-- The feed-forward part has no named constant. -/
theorem preserves_ffn : Cert.preserves_Ffn_FfnIdeal := trivial

/-- The feed-forward part's kernel leaves in its result the extended reals that its reference leaves. -/
theorem algebraic_ffn : Cert.algebraic_FfnIdeal_FfnReferenceIdeal := by
  intro m g m' g' _ hargs
  refine ⟨fun c => Cert.FfnReferenceIdeal.Read.val_main_v42 (F := Ideal) (Cert.FfnIdeal.Run.X m c) (Cert.FfnIdeal.Run.G m c) (Cert.FfnIdeal.Run.Sc m c)
    (Cert.FfnIdeal.Run.Sh m c) (Cert.FfnIdeal.Run.G2 m c) (Cert.FfnIdeal.Run.Fg m c) (Cert.FfnIdeal.Run.W1 m c) (Cert.FfnIdeal.Run.W2 m c),
    Cert.FfnIdeal.Run.run_result m g, ?_⟩
  refine (θ_run Cert.FfnReferenceIdeal.defs _ _).mono (fun r h c => ?_) (Cert.FfnReferenceIdeal.Value.run (F := Ideal) m' g')
  obtain ⟨a0, a1, a2, a3, a4, a5, a6, a7⟩ := hargs c
  exact ⟨(h c).1.trans ((Cert.FfnReferenceIdeal.Read.val_main_v42_eq m' c).trans (by rw [a0, a1, a2, a3, a4, a5, a6, a7])), (h c).2⟩

theorem claim : Cert.Claim :=
  ⟨Cert.Kernel.Gen.facts, Cert.KernelIdeal.Gen.facts, Cert.ReferenceIdeal.Gen.facts, Cert.Inproj.Gen.facts,
    Cert.InprojIdeal.Gen.facts, Cert.InprojReferenceIdeal.Gen.facts, Cert.Ffn.Gen.facts, Cert.FfnIdeal.Gen.facts,
    Cert.FfnReferenceIdeal.Gen.facts, Cert.Attention.preFacts,
    frame_kernel, frame_kernelIdeal, frame_kernelIdeal_finite, frame_referenceIdeal, frame_referenceIdeal_finite,
    frame_inproj, frame_inprojIdeal, frame_inprojReferenceIdeal, frame_ffn, frame_ffnIdeal, frame_ffnReferenceIdeal,
    preserves_kernel, algebraic_attention, preserves_inproj, algebraic_inproj, preserves_ffn, algebraic_ffn⟩

end Cert.Proof

end
